-- ==== Defs.lean ====
def Pre_Kernel [hPre_sorted_ids : Cert.Pre_sorted_ids.Facts] (m : (ℓ : Loc Cert.Kernel.nD Cert.Kernel.τ Cert.Kernel.sig) → Buf (Elt Bits) ℓ) : Prop :=
  ∀ c : Dev Cert.Kernel.nD,
    (Cert.Pre_sorted_ids.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_sorted_ids : Cert.Pre_sorted_ids.Facts] (m : (ℓ : Loc Cert.KernelIdeal.nD Cert.KernelIdeal.τ Cert.KernelIdeal.sig) → Buf (Elt Ideal) ℓ) : Prop :=
  ∀ c : Dev Cert.KernelIdeal.nD,
    (Cert.Pre_sorted_ids.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sorted_ids [hPre_sorted_ids : Cert.Pre_sorted_ids.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sorted_ids.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_sorted_ids : Cert.Pre_sorted_ids.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_sorted_ids [hReferenceIdeal : Cert.ReferenceIdeal.Facts] [hPre_sorted_ids : Cert.Pre_sorted_ids.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sorted_ids m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sorted_ids : Cert.Pre_sorted_ids.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_sorted_ids : Cert.Pre_sorted_ids.Facts),
    quiescent_Kernel (hKernel := hKernel) (hPre_sorted_ids := hPre_sorted_ids)
    ∧ quiescent_KernelIdeal (hKernelIdeal := hKernelIdeal) (hPre_sorted_ids := hPre_sorted_ids)
    ∧ quiescent_ReferenceIdeal (hReferenceIdeal := hReferenceIdeal)
    ∧ quiescent_ReferenceIdeal_pre_sorted_ids (hReferenceIdeal := hReferenceIdeal) (hPre_sorted_ids := hPre_sorted_ids)
    ∧ preserves_Kernel_KernelIdeal
    ∧ algebraic_KernelIdeal_ReferenceIdeal (hKernelIdeal := hKernelIdeal) (hReferenceIdeal := hReferenceIdeal) (hPre_sorted_ids := hPre_sorted_ids)
-- ==== Pre_sorted_ids.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S_ : Shape := ⟨0, ![]⟩
abbrev S319999 : Shape := ⟨1, ![319999]⟩

class Facts : Prop where
  bcast_S_S320000 : S_.BroadcastsInDim S320000 (![] : Fin 0 → Fin S320000.rank)
  reducesTo_S320000_S_d0 : S320000.ReducesTo [0] S_
  h_S_ : 0 < S_.numel
  slices_S320000_S319999_0 : S320000.Slices ![0] S319999
  slices_S320000_S319999_1 : S320000.Slices ![1] S319999
  reducesTo_S319999_S_d0 : S319999.ReducesTo [0] S_

variable [Facts]

def fn {F : FTy → Type} [FloatOps F] (main_arg0 : FVec F S320000x128 .f32) (main_arg1 : IVec S320000 32) (main_arg2 : FVec F S128x128 .f32) (main_arg3 : FVec F S128 .f32) (main_arg4 : FVec F S128x128 .f32) (main_arg5 : FVec F S128 .f32) : IVec S_ 1 :=
  let main_c : IVec S_ 32 := constantI S_ 32 0#32
  let main_v0 : IVec S320000 32 := broadcastInDim S320000 ![] bcast_S_S320000 main_c
  let main_v1 : IVec S320000 1 := cmpi .sge main_arg1 main_v0
  let main_c_0 : IVec S_ 1 := constantI S_ 1 1#1
  let main_v2 : IVec S_ 1 := (fun x v => Host.reduce IntOp.andi x v reducesTo_S320000_S_d0 h_S_) main_v1 main_c_0
  let main_c_1 : IVec S_ 32 := constantI S_ 32 1024#32
  let main_v3 : IVec S320000 32 := broadcastInDim S320000 ![] bcast_S_S320000 main_c_1
  let main_v4 : IVec S320000 1 := cmpi .slt main_arg1 main_v3
  let main_c_2 : IVec S_ 1 := constantI S_ 1 1#1
  let main_v5 : IVec S_ 1 := (fun x v => Host.reduce IntOp.andi x v reducesTo_S320000_S_d0 h_S_) main_v4 main_c_2
  let main_v6 : IVec S_ 1 := andi main_v2 main_v5
  let main_v7 : IVec S319999 32 := (extractStridedSlice S319999 ![0] · slices_S320000_S319999_0) main_arg1
  let main_v8 : IVec S319999 32 := (extractStridedSlice S319999 ![1] · slices_S320000_S319999_1) main_arg1
  let main_v9 : IVec S319999 1 := cmpi .sle main_v7 main_v8
  let main_c_3 : IVec S_ 1 := constantI S_ 1 1#1
  let main_v10 : IVec S_ 1 := (fun x v => Host.reduce IntOp.andi x v reducesTo_S319999_S_d0 h_S_) main_v9 main_c_3
  let main_v11 : IVec S_ 1 := andi main_v6 main_v10
  main_v11
-- ==== Kernel.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S10x1x32000 : Shape := ⟨3, ![10, 1, 32000]⟩
abbrev S10 : Shape := ⟨1, ![10]⟩
abbrev S1x128 : Shape := ⟨2, ![1, 128]⟩
abbrev S1024x128 : Shape := ⟨2, ![1024, 128]⟩
abbrev S1x1x32000 : Shape := ⟨3, ![1, 1, 32000]⟩
abbrev S32000x128 : Shape := ⟨2, ![32000, 128]⟩
abbrev S1024x1 : Shape := ⟨2, ![1024, 1]⟩
abbrev S1x32000 : Shape := ⟨2, ![1, 32000]⟩
abbrev S1 : Shape := ⟨1, ![1]⟩
abbrev S128x32000 : Shape := ⟨2, ![128, 32000]⟩
abbrev S128x1 : Shape := ⟨2, ![128, 1]⟩
abbrev S1024x32000 : Shape := ⟨2, ![1024, 32000]⟩
abbrev S1024 : Shape := ⟨1, ![1024]⟩

abbrev nBuf : Space → Nat
  | .hbm => 10
  | .vmem => 11
  | .smem => 2
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10x1x32000, .i32⟩
  | .hbm, ⟨7, _⟩ => ⟨S1x128, .f32⟩
  | .hbm, ⟨8, _⟩ => ⟨S1x128, .f32⟩
  | .hbm, ⟨9, _⟩ => ⟨S1024x128, .f32⟩
  | .local _ .vmem, ⟨0, _⟩ => ⟨S1x1x32000, .i32⟩
  | .local _ .vmem, ⟨1, _⟩ => ⟨S1x1x32000, .i32⟩
  | .local _ .vmem, ⟨2, _⟩ => ⟨S32000x128, .f32⟩
  | .local _ .vmem, ⟨3, _⟩ => ⟨S32000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | .local _ .vmem, ⟨10, _⟩ => ⟨S1024x1, .f32⟩
  | .local _ .smem, ⟨0, _⟩ => ⟨S10, .i32⟩
  | .local _ .smem, ⟨1, _⟩ => ⟨S10, .i32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_call0_v1 : Ref sig .tc := ⟨.smem, 0, rfl⟩
abbrev main_call0_v2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![10], ![false]⟩

abbrev pre0 : Pipeline.Prefetch sig := ⟨2, ![main_call0_v1.idx, main_call0_v2.idx], fun | 0 => main_call0_v1.names | 1 => main_call0_v2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v17 : Index := Scalar.indexCast arg0
  ![v17.toNat]
def k0_off2 (v18 : BitVec 32) : Fin 2 → Nat :=
  let c_m8_i32 : BitVec 32 := 4294967288#32
  let v19 : BitVec 32 := Scalar.andi v18 c_m8_i32
  let c896_i32 : BitVec 32 := 896#32
  let v20 : BitVec 32 := Scalar.minsi v19 c896_i32
  let v41 : Index := Scalar.indexCast v20
  let c0_13 : Index := 0#32
  ![v41.toNat, 0]
def k0_cond2 (v18 : BitVec 32) (v22 : BitVec 32) : BitVec 1 :=
  let c_m8_i32 : BitVec 32 := 4294967288#32
  let v19 : BitVec 32 := Scalar.andi v18 c_m8_i32
  let c896_i32 : BitVec 32 := 896#32
  let v20 : BitVec 32 := Scalar.minsi v19 c896_i32
  let v23 : BitVec 32 := Scalar.subi v22 v20
  let c128_i32 : BitVec 32 := 128#32
  let v24 : BitVec 1 := Scalar.cmpi .slt v23 c128_i32
  let v25 : BitVec 32 := Scalar.extui v24
  let c0_i32_10 : BitVec 32 := 0#32
  let v26 : BitVec 1 := Scalar.cmpi .ne v25 c0_i32_10
  v26

def k0_off3 (v18 : BitVec 32) : Fin 2 → Nat :=
  let c_m8_i32 : BitVec 32 := 4294967288#32
  let v19 : BitVec 32 := Scalar.andi v18 c_m8_i32
  let c896_i32 : BitVec 32 := 896#32
  let v20 : BitVec 32 := Scalar.minsi v19 c896_i32
  let v49 : Index := Scalar.indexCast v20
  let c0_16 : Index := 0#32
  ![v49.toNat, 0]

def k0_chk1 (v18 : BitVec 32) (v22 : BitVec 32) : Prop :=
  (∀ (k0_h2 : k0_cond2 v18 v22 = 1#1), ∀ a, (k0_off2 v18) a + S128x128.size a ≤ S1024x128.size a) ∧
  (∀ (k0_h2 : k0_cond2 v18 v22 = 1#1), ∀ a, (k0_off3 v18) a + S128x1.size a ≤ S1024x1.size a)
theorem k0_off2_inb : ∀ (v18 : BitVec 32) (v22 : BitVec 32) (k0_hw1 : k0_chk1 v18 v22), ∀ (k0_h2 : k0_cond2 v18 v22 = 1#1), ∀ a, (k0_off2 v18) a + S128x128.size a ≤ S1024x128.size a := fun v18 v22 k0_hw1 k0_h2 => k0_hw1.1 k0_h2
theorem k0_off3_inb : ∀ (v18 : BitVec 32) (v22 : BitVec 32) (k0_hw1 : k0_chk1 v18 v22), ∀ (k0_h2 : k0_cond2 v18 v22 = 1#1), ∀ a, (k0_off3 v18) a + S128x1.size a ≤ S1024x1.size a := fun v18 v22 k0_hw1 k0_h2 => k0_hw1.2 k0_h2

def k0_cond4 (i : grid0.Coords) : BitVec 1 :=
  let arg0 : BitVec 32 := BitVec.ofNat 32 (i 0).val
  let c9_i32 : BitVec 32 := 9#32
  let v30 : BitVec 1 := Scalar.cmpi .eq arg0 c9_i32
  let v31 : BitVec 32 := Scalar.extui v30
  let c0_i32_12 : BitVec 32 := 0#32
  let v32 : BitVec 1 := Scalar.cmpi .ne v31 c0_i32_12
  v32

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x32000 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S320000x128 : Shape := ⟨2, ![320000, 128]⟩
abbrev S320000 : Shape := ⟨1, ![320000]⟩
abbrev S128x128 : Shape := ⟨2, ![128, 128]⟩
abbrev S128 : Shape := ⟨1, ![128]⟩
abbrev S1x128 : Shape := ⟨2, ![1, 128]⟩
abbrev S_ : Shape := ⟨0, ![]⟩
abbrev S1024x128 : Shape := ⟨2, ![1024, 128]⟩
abbrev S320000x1 : Shape := ⟨2, ![320000, 1]⟩
abbrev S1024 : Shape := ⟨1, ![1024]⟩
abbrev S1024x1 : Shape := ⟨2, ![1024, 1]⟩

abbrev nBuf : Space → Nat
  | .hbm => 33
  | .vmem => 0
  | .smem => 0
  | _ => 0

abbrev bufTy : (tb : Table) → Fin (tcTables nBuf tb) → BufTy
  | .hbm, ⟨0, _⟩ => ⟨S320000x128, .f32⟩
  | .hbm, ⟨1, _⟩ => ⟨S320000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S320000x128, .f32⟩
  | .hbm, ⟨7, _⟩ => ⟨S1x128, .f32⟩
  | .hbm, ⟨8, _⟩ => ⟨S320000x128, .f32⟩
  | .hbm, ⟨9, _⟩ => ⟨S320000x128, .f32⟩
  | .hbm, ⟨10, _⟩ => ⟨S_, .f32⟩
  | .hbm, ⟨11, _⟩ => ⟨S320000x128, .f32⟩
  | .hbm, ⟨12, _⟩ => ⟨S320000x128, .f32⟩
  | .hbm, ⟨13, _⟩ => ⟨S_, .f32⟩
  | .hbm, ⟨14, _⟩ => ⟨S1024x128, .f32⟩
  | .hbm, ⟨15, _⟩ => ⟨S320000x1, .i32⟩
  | .hbm, ⟨16, _⟩ => ⟨S1024x128, .f32⟩
  | .hbm, ⟨17, _⟩ => ⟨S_, .f32⟩
  | .hbm, ⟨18, _⟩ => ⟨S320000, .f32⟩
  | .hbm, ⟨19, _⟩ => ⟨S_, .f32⟩
  | .hbm, ⟨20, _⟩ => ⟨S1024, .f32⟩
  | .hbm, ⟨21, _⟩ => ⟨S320000x1, .i32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024x1, .f32⟩
  | .hbm, ⟨27, _⟩ => ⟨S1024x128, .f32⟩
  | .hbm, ⟨28, _⟩ => ⟨S1024x128, .f32⟩
  | .hbm, ⟨29, _⟩ => ⟨S1024x128, .f32⟩
  | .hbm, ⟨30, _⟩ => ⟨S1x128, .f32⟩
  | .hbm, ⟨31, _⟩ => ⟨S1024x128, .f32⟩
  | .hbm, ⟨32, _⟩ => ⟨S1024x128, .f32⟩
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_cst : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proof.Ids.lean ====
module

public import proofs.«01_k».proof.Proof.Gen.Pre_sorted_ids
public import Idealize.ShloMosaic.Lib.StableHlo.Predicate
public import Idealize.ShloMosaic.Lib.ReduceAll

@[expose] public section

set_option maxRecDepth 16384

/-!
The ids: what the precondition says of them, and the arithmetic of the window of 128 segments that a block of ids is
summed into.
-/

namespace Cert.Ids

open Idealize.ShloMosaic

/-- The shape of the id array. -/
abbrev SB : Shape := ⟨1, ![320000]⟩

/-- The index of row `r`. -/
def row (r : ℕ) (h : r < 320000) : SB.Idx := fun a => ⟨r, by obtain rfl : a = 0 := Subsingleton.elim _ _; exact h⟩

theorem eq_row (j : SB.Idx) : j = row (j 0).val (j 0).isLt := by
  funext a; obtain rfl : a = 0 := Subsingleton.elim _ _; rfl

/-- The ids are segment numbers, in ascending order. -/
structure Sorted (b : IVec SB 32) : Prop where
  lt : ∀ r h, (b (row r h)).toNat < 1024
  mono : ∀ r s (h : s < 320000) (hrs : r ≤ s), (b (row r (lt_of_le_of_lt hrs h))).toNat ≤ (b (row s h)).toNat

/-- A word that is not negative and below 1024, both signed. -/
theorem small_of_signed (w : BitVec 32) (h0 : IntOp.cmpi .sge w 0#32 = 1#1) (h1 : IntOp.cmpi .slt w 1024#32 = 1#1) : w.toNat < 1024 := by
  simp only [IntOp.cmpi, StableHlo.Predicate.ofBool_eq_one_iff, BitVec.sle, BitVec.slt, decide_eq_true_eq] at h0 h1
  rw [show (0#32 : BitVec 32).toInt = 0 from rfl] at h0
  rw [show (1024#32 : BitVec 32).toInt = 1024 from rfl] at h1
  rw [BitVec.toInt_eq_toNat_cond] at h0 h1
  have := w.isLt
  split at h0 <;> split at h1 <;> omega

/-- The precondition, read: every id is a segment number and the ids ascend. -/
theorem sorted_of_pre {F : FTy → Type} [FloatOps F] (a0 : FVec F Pre_sorted_ids.S320000x128 .f32) (a1 : IVec SB 32)
    (a2 : FVec F Pre_sorted_ids.S128x128 .f32) (a3 : FVec F Pre_sorted_ids.S128 .f32) (a4 : FVec F Pre_sorted_ids.S128x128 .f32)
    (a5 : FVec F Pre_sorted_ids.S128 .f32) (h : Pre_sorted_ids.fn a0 a1 a2 a3 a4 a5 = (fun _ => 1#1)) : Sorted a1 := by
  have h := congrFun h (fun a => a.elim0)
  unfold Pre_sorted_ids.fn at h
  obtain ⟨h12, h3⟩ := IntOp.andi_eq_one.1 h
  obtain ⟨h1, h2⟩ := IntOp.andi_eq_one.1 h12
  haveI : Subsingleton Pre_sorted_ids.S_.Idx := ⟨fun a b => funext fun k => k.elim0⟩
  have hlt : ∀ r h, (a1 (row r h)).toNat < 1024 := fun r hr =>
    small_of_signed _ (Host.reduce_andi_all _ _ _ _ _ h1 (row r hr)) (Host.reduce_andi_all _ _ _ _ _ h2 (row r hr))
  have hstep : ∀ r (h : r + 1 < 320000), (a1 (row r (Nat.lt_of_succ_lt h))).toNat ≤ (a1 (row (r + 1) h)).toNat := fun r hr => by
    let j : Pre_sorted_ids.S319999.Idx := fun a => ⟨r, by obtain rfl : a = 0 := Subsingleton.elim _ _; exact (by omega : r < 319999)⟩
    have e := Host.reduce_andi_all _ _ _ _ _ h3 j
    have q0 : extractStridedSlice Pre_sorted_ids.S319999 ![0] a1 Pre_sorted_ids.Facts.slices_S320000_S319999_0 j = a1 (row r (by omega)) :=
      congrArg a1 (funext fun a => by obtain rfl : a = 0 := Subsingleton.elim _ _; exact Fin.ext (Nat.zero_add r))
    have q1 : extractStridedSlice Pre_sorted_ids.S319999 ![1] a1 Pre_sorted_ids.Facts.slices_S320000_S319999_1 j = a1 (row (r + 1) hr) :=
      congrArg a1 (funext fun a => by obtain rfl : a = 0 := Subsingleton.elim _ _; exact Fin.ext (Nat.add_comm 1 r))
    have l0 := hlt r (by omega)
    have l1 := hlt (r + 1) hr
    refine (StableHlo.Predicate.sle_iff_toNat (by omega) (by omega)).1 ?_
    rw [← q0, ← q1]; exact e
  refine ⟨hlt, fun r s h hrs => ?_⟩
  induction s with
  | zero => obtain rfl : r = 0 := by omega
            exact le_refl _
  | succ s ih =>
    by_cases e : r = s + 1
    · subst e; exact le_refl _
    · exact (ih (by omega) (by omega)).trans (hstep s h)

/-- The window's first segment, as the kernel computes it from a block's first id: a multiple of eight, at most 896. -/
abbrev base (lo : BitVec 32) : BitVec 32 := Scalar.minsi (Scalar.andi lo 4294967288#32) 896#32

theorem base_fin : ∀ k : Fin 1024, (base (BitVec.ofNat 32 k.val)).toNat = min (k.val / 8 * 8) 896 := by decide +kernel

theorem base_toNat (lo : BitVec 32) (h : lo.toNat < 1024) : (base lo).toNat = min (lo.toNat / 8 * 8) 896 := by
  have := base_fin ⟨lo.toNat, h⟩
  simpa using this

/-- The window holds the ids from `lo` to `hi` when the kernel's test says so. -/
theorem narrow_iff (lo hi : BitVec 32) (hl : lo.toNat < 1024) (hh : hi.toNat < 1024) (hle : lo.toNat ≤ hi.toNat) :
    Scalar.cmpi .ne (Scalar.extui (Scalar.cmpi .slt (Scalar.subi hi (base lo)) 128#32) : BitVec 32) 0#32 = 1#1
      ↔ hi.toNat < (base lo).toNat + 128 := by
  have hb := base_toNat lo hl
  have h1 : ∀ x : BitVec 1, Scalar.cmpi .ne (Scalar.extui x : BitVec 32) 0#32 = 1#1 ↔ x = 1#1 := by decide
  rw [h1]
  have e : (Scalar.subi hi (base lo)).toNat = hi.toNat - (base lo).toNat := by
    show (hi - base lo).toNat = _
    rw [BitVec.toNat_sub]; omega
  show IntOp.cmpi .slt _ _ = 1#1 ↔ _
  rw [StableHlo.Predicate.slt_iff_toNat (by rw [e]; omega) (by decide), e]
  show _ < 128 ↔ _
  omega

end Cert.Ids
-- ==== Proof.Ideal.Body.lean ====
module

public import proofs.«01_k».proof.Proof.Gen.KernelIdeal.Skeleton
public import proofs.«01_k».proof.Proof.Gen.KernelIdeal.Launch
public import Idealize.ShloMosaic.Lib.Tactic
public import Idealize.ShloMosaic.Lib.WordCmp
public import Idealize.ShloMosaic.Lib.Claim
public import Idealize.ShloMosaic.Lib.VecWindow
public import Idealize.ShloMosaic.Lib.Pipeline.Kit
public import Idealize.ShloMosaic.Lib.Pipeline.FrameBody

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The condition of the kernel's first conditional: the grid point is the first one. -/
abbrev isFirst (i : grid0.Coords) : Prop := (Scalar.cmpi .ne (Scalar.extui (Scalar.cmpi .eq (BitVec.ofNat 32 (i 0).val) 0#32)) 0#32) = 1#1

/-- The condition of the kernel's window update: the block's ids, between `lo` and `hi`, fit the window of 128 segments. -/
abbrev isNarrow (lo hi : BitVec 32) : Prop := k0_cond2 lo hi = 1#1

/-- The condition of the kernel's full update: the block's ids do not fit the window. -/
abbrev isWide (lo hi : BitVec 32) : Prop :=
  Scalar.cmpi .ne (Scalar.extui (Scalar.xori (Scalar.cmpi .slt (Scalar.subi hi (Scalar.minsi (Scalar.andi lo 4294967288#32) 896#32)) 128#32) 1#1)) 0#32 = 1#1

/-- The condition of the kernel's last conditional: the grid point is the last one. -/
abbrev isLast (i : grid0.Coords) : Prop := k0_cond4 i = 1#1

abbrev scM0 : Memref sig .tc .vmem S1024x128 .f32 := Memref.whole cc0_scratch0
abbrev scM1 : Memref sig .tc .vmem S1024x1 .f32 := Memref.whole cc0_scratch1
abbrev tbM0 : Memref sig .tc .smem S10 .i32 := Memref.whole main_call0_v1
abbrev tbM1 : Memref sig .tc .smem S10 .i32 := Memref.whole main_call0_v2

/-- The word of a table that point `i` reads. -/
abbrev wd (c : Dev nD) (i : grid0.Coords) (arg : Memref sig .tc .smem S10 .i32) (T : Buf (Elt F) (arg.view.loc (c : Thread nD τ))) : BitVec 32 :=
  (arg.access (Rect.unit (s := S10) (k0_off1 i) S1.size (k0_off1_inb i))).read (Elt F) T (Shape.Idx.first (numel1_S1.symm ▸ Nat.one_pos))

/-- What one block adds to the accumulator `a`: over the window of 128 segments when the block's ids fit it, else over all segments. -/
def accNext (lo hi : BitVec 32) (x0 : Vec F S1x1x32000 .i32) (x1 : Vec F S32000x128 .f32) (x2 : Vec F S128x128 .f32) (x3 : Vec F S1x128 .f32) (a : Vec F S1024x128 .f32) : Vec F S1024x128 .f32 :=
  if h : k0_chk1 lo hi ∧ isNarrow lo hi then
    VecWindow.put a (k0_off2 lo) S128x128.size (k0_pay6 x1 x2 x3 x0 lo (VecWindow.window a (k0_off2 lo) S128x128.size (k0_off2_inb lo hi h.1 h.2)))
  else k0_pay9 x1 x2 x3 x0 a

/-- What one block adds to the counts `b`, in the same two ways. -/
def cntNext (lo hi : BitVec 32) (x0 : Vec F S1x1x32000 .i32) (b : Vec F S1024x1 .f32) : Vec F S1024x1 .f32 :=
  if h : k0_chk1 lo hi ∧ isNarrow lo hi then
    VecWindow.put b (k0_off3 lo) S128x1.size (k0_pay7 x0 lo (VecWindow.window b (k0_off3 lo) S128x1.size (k0_off3_inb lo hi h.1 h.2)))
  else k0_pay10 x0 b

theorem accNext_narrow {lo hi : BitVec 32} (hk : k0_chk1 lo hi) (hn : isNarrow lo hi) (x0 : Vec F S1x1x32000 .i32) (x1 : Vec F S32000x128 .f32) (x2 : Vec F S128x128 .f32) (x3 : Vec F S1x128 .f32) (a : Vec F S1024x128 .f32) :
    accNext lo hi x0 x1 x2 x3 a = VecWindow.put a (k0_off2 lo) S128x128.size (k0_pay6 x1 x2 x3 x0 lo (VecWindow.window a (k0_off2 lo) S128x128.size (k0_off2_inb lo hi hk hn))) :=
  dif_pos ⟨hk, hn⟩
theorem accNext_wide {lo hi : BitVec 32} (hn : ¬isNarrow lo hi) (x0 : Vec F S1x1x32000 .i32) (x1 : Vec F S32000x128 .f32) (x2 : Vec F S128x128 .f32) (x3 : Vec F S1x128 .f32) (a : Vec F S1024x128 .f32) :
    accNext lo hi x0 x1 x2 x3 a = k0_pay9 x1 x2 x3 x0 a := dif_neg fun h => hn h.2
theorem cntNext_narrow {lo hi : BitVec 32} (hk : k0_chk1 lo hi) (hn : isNarrow lo hi) (x0 : Vec F S1x1x32000 .i32) (b : Vec F S1024x1 .f32) :
    cntNext lo hi x0 b = VecWindow.put b (k0_off3 lo) S128x1.size (k0_pay7 x0 lo (VecWindow.window b (k0_off3 lo) S128x1.size (k0_off3_inb lo hi hk hn))) :=
  dif_pos ⟨hk, hn⟩
theorem cntNext_wide {lo hi : BitVec 32} (hn : ¬isNarrow lo hi) (x0 : Vec F S1x1x32000 .i32) (b : Vec F S1024x1 .f32) :
    cntNext lo hi x0 b = k0_pay10 x0 b := dif_neg fun h => hn h.2

/-- The kernel's operands held: the two tables (half a share each), the six staged inputs at `x0 … x5`, the staged output at `o`, the accumulator at `a` and the counts at `b`. -/
abbrev held (c : Dev nD) (arg1 : Memref sig .tc .smem S10 .i32) (arg2 : Memref sig .tc .smem S10 .i32)
    (arg3 : Memref sig .tc .vmem S1x1x32000 .i32) (arg4 : Memref sig .tc .vmem S32000x128 .f32) (arg5 : Memref sig .tc .vmem S128x128 .f32) (arg6 : Memref sig .tc .vmem S1x128 .f32)
    (arg7 : Memref sig .tc .vmem S128x128 .f32) (arg8 : Memref sig .tc .vmem S1x128 .f32) (arg9 : Memref sig .tc .vmem S1024x128 .f32) (arg10 : Memref sig .tc .vmem S1024x128 .f32) (arg11 : Memref sig .tc .vmem S1024x1 .f32)
    (T0 : Buf (Elt F) (arg1.view.loc (c : Thread nD τ))) (T1 : Buf (Elt F) (arg2.view.loc (c : Thread nD τ)))
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) : sProp 𝕄 :=
  iprop((arg1.view.loc (c : Thread nD τ) ↦{fullShare.right} T0) ∗ (arg2.view.loc (c : Thread nD τ) ↦{fullShare.right} T1)
    ∗ owns (c : Thread nD τ) arg3 fullShare x0 ∗ owns (c : Thread nD τ) arg4 fullShare x1 ∗ owns (c : Thread nD τ) arg5 fullShare x2 ∗ owns (c : Thread nD τ) arg6 fullShare x3
    ∗ owns (c : Thread nD τ) arg7 fullShare x4 ∗ owns (c : Thread nD τ) arg8 fullShare x5 ∗ owns (c : Thread nD τ) arg9 fullShare o
    ∗ owns (c : Thread nD τ) arg10 fullShare a ∗ owns (c : Thread nD τ) arg11 fullShare b)

set_option maxHeartbeats 2000000 in
/-- The kernel's body at the first point, its ids within the window. -/
theorem run_first_narrow (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hc0 : isFirst i) (hchk : k0_chk1 (wd c i arg1 T0) (wd c i arg2 T1)) (hc1 : isNarrow (wd c i arg1 T0) (wd c i arg2 T1)) (hc2 : ¬isWide (wd c i arg1 T0) (wd c i arg2 T1)) (hc3 : ¬isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5 o
            (accNext (wd c i arg1 T0) (wd c i arg2 T1) x0 x1 x2 x3 (k0_pay1 (F := F))) (cntNext (wd c i arg1 T0) (wd c i arg2 T1) x0 (k0_pay2 (F := F))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel; simp only [k0_part1_eq_skeleton]; unfold k0_part1_skel
  have e0 := (View.readAt_full arg3.view (harg3.unread x0) inb_S1x1x32000_S1x1x32000_0_0_0).trans (harg3.read_unread x0)
  have e1 := (View.readAt_full arg4.view (harg4.unread x1) inb_S32000x128_S32000x128_0_0).trans (harg4.read_unread x1)
  have e2 := (View.readAt_full arg5.view (harg5.unread x2) inb_S128x128_S128x128_0_0).trans (harg5.read_unread x2)
  have e3 := (View.readAt_full arg6.view (harg6.unread x3) inb_S1x128_S1x128_0_0).trans (harg6.read_unread x3)
  have e4 := (View.readAt_full arg7.view (harg7.unread x4) inb_S128x128_S128x128_0_0).trans (harg7.read_unread x4)
  have e5 := (View.readAt_full arg8.view (harg8.unread x5) inb_S1x128_S1x128_0_0).trans (harg8.read_unread x5)
  have ea := fun f => View.readAt_full (Val := Elt F) arg10.view f inb_S1024x128_S1024x128_0_0
  have eb := fun f => View.readAt_full (Val := Elt F) arg11.view f inb_S1024x1_S1024x1_0_0
  have wo := fun f w L => View.read_writes_full (Val := Elt F) arg9.view f inb_S1024x128_S1024x128_0_0 w L
  have wa := fun f w L => View.read_writes_full (Val := Elt F) arg10.view f inb_S1024x128_S1024x128_0_0 w L
  have wb := fun f w L => View.read_writes_full (Val := Elt F) arg11.view f inb_S1024x1_S1024x1_0_0 w L
  have ra := fun f => View.readAt_unit (Val := Elt F) arg10.view f (k0_off2_inb _ _ hchk hc1) rfl (k0_off2_inb _ _ hchk hc1)
  have rb := fun f => View.readAt_unit (Val := Elt F) arg11.view f (k0_off3_inb _ _ hchk hc1) rfl (k0_off3_inb _ _ hchk hc1)
  unfold held owns
  iintro ⟨⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg9.eq_unread hf6; obtain rfl := harg10.eq_unread hfs0; obtain rfl := harg11.eq_unread hfs1
  sl_exec (disch := first | sl_exact hc0 | sl_exact hchk | sl_exact hc1 | sl_exact hc2 | sl_exact hc3)
  sl_step
  iapply Hk
  isplitl [HT0]; · iexact HT0
  isplitl [HT1]; · iexact HT1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr [H6]; rotate_left; · iexact H6
    ipureintro
    exact hf6
  isplitl [HS0]
  · iexists _; isplitr [HS0]; rotate_left; · iexact HS0
    ipureintro
    rw [accNext_narrow hchk hc1]
    try delta run_first_narrow.sl.HS0_1
    try delta run_first_narrow.sl.HS1_1
    try delta run_first_narrow.sl.r
    simp only [e0, e1, e2, e3, e4, e5, ea, eb, wo, wa, wb, ra, rb, View.readCov, View.read_writes_cons_put _ _ _ _ _ rfl, View.writes_nil, hfs0, hfs1]; try rfl
  · iexists _; isplitr [HS1]; rotate_left; · iexact HS1
    ipureintro
    rw [cntNext_narrow hchk hc1]
    try delta run_first_narrow.sl.HS0_1
    try delta run_first_narrow.sl.HS1_1
    try delta run_first_narrow.sl.r
    simp only [e0, e1, e2, e3, e4, e5, ea, eb, wo, wa, wb, ra, rb, View.readCov, View.read_writes_cons_put _ _ _ _ _ rfl, View.writes_nil, hfs0, hfs1]; try rfl

set_option maxHeartbeats 2000000 in
/-- The kernel's body at the first point, its ids wider than the window. -/
theorem run_first_wide (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hc0 : isFirst i) (hchk : k0_chk1 (wd c i arg1 T0) (wd c i arg2 T1)) (hc1 : ¬isNarrow (wd c i arg1 T0) (wd c i arg2 T1)) (hc2 : isWide (wd c i arg1 T0) (wd c i arg2 T1)) (hc3 : ¬isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5 o
            (accNext (wd c i arg1 T0) (wd c i arg2 T1) x0 x1 x2 x3 (k0_pay1 (F := F))) (cntNext (wd c i arg1 T0) (wd c i arg2 T1) x0 (k0_pay2 (F := F))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel; simp only [k0_part1_eq_skeleton]; unfold k0_part1_skel
  have e0 := (View.readAt_full arg3.view (harg3.unread x0) inb_S1x1x32000_S1x1x32000_0_0_0).trans (harg3.read_unread x0)
  have e1 := (View.readAt_full arg4.view (harg4.unread x1) inb_S32000x128_S32000x128_0_0).trans (harg4.read_unread x1)
  have e2 := (View.readAt_full arg5.view (harg5.unread x2) inb_S128x128_S128x128_0_0).trans (harg5.read_unread x2)
  have e3 := (View.readAt_full arg6.view (harg6.unread x3) inb_S1x128_S1x128_0_0).trans (harg6.read_unread x3)
  have e4 := (View.readAt_full arg7.view (harg7.unread x4) inb_S128x128_S128x128_0_0).trans (harg7.read_unread x4)
  have e5 := (View.readAt_full arg8.view (harg8.unread x5) inb_S1x128_S1x128_0_0).trans (harg8.read_unread x5)
  have ea := fun f => View.readAt_full (Val := Elt F) arg10.view f inb_S1024x128_S1024x128_0_0
  have eb := fun f => View.readAt_full (Val := Elt F) arg11.view f inb_S1024x1_S1024x1_0_0
  have wo := fun f w L => View.read_writes_full (Val := Elt F) arg9.view f inb_S1024x128_S1024x128_0_0 w L
  have wa := fun f w L => View.read_writes_full (Val := Elt F) arg10.view f inb_S1024x128_S1024x128_0_0 w L
  have wb := fun f w L => View.read_writes_full (Val := Elt F) arg11.view f inb_S1024x1_S1024x1_0_0 w L
  unfold held owns
  iintro ⟨⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg9.eq_unread hf6; obtain rfl := harg10.eq_unread hfs0; obtain rfl := harg11.eq_unread hfs1
  sl_exec (disch := first | sl_exact hc0 | sl_exact hchk | sl_exact hc1 | sl_exact hc2 | sl_exact hc3)
  sl_step
  iapply Hk
  isplitl [HT0]; · iexact HT0
  isplitl [HT1]; · iexact HT1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr [H6]; rotate_left; · iexact H6
    ipureintro
    exact hf6
  isplitl [HS0]
  · iexists _; isplitr [HS0]; rotate_left; · iexact HS0
    ipureintro
    rw [accNext_wide hc1]
    try delta run_first_wide.sl.v39
    try delta run_first_wide.sl.v45
    try delta run_first_wide.sl.HS0_1
    try delta run_first_wide.sl.HS1_1
    simp only [e0, e1, e2, e3, e4, e5, ea, eb, wo, wa, wb, View.readCov, View.read_writes_cons_put _ _ _ _ _ rfl, View.writes_nil, hfs0, hfs1]; try rfl
  · iexists _; isplitr [HS1]; rotate_left; · iexact HS1
    ipureintro
    rw [cntNext_wide hc1]
    try delta run_first_wide.sl.v39
    try delta run_first_wide.sl.v45
    try delta run_first_wide.sl.HS0_1
    try delta run_first_wide.sl.HS1_1
    simp only [e0, e1, e2, e3, e4, e5, ea, eb, wo, wa, wb, View.readCov, View.read_writes_cons_put _ _ _ _ _ rfl, View.writes_nil, hfs0, hfs1]; try rfl

set_option maxHeartbeats 2000000 in
/-- The kernel's body at a middle point, its ids within the window. -/
theorem run_mid_narrow (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hc0 : ¬isFirst i) (hchk : k0_chk1 (wd c i arg1 T0) (wd c i arg2 T1)) (hc1 : isNarrow (wd c i arg1 T0) (wd c i arg2 T1)) (hc2 : ¬isWide (wd c i arg1 T0) (wd c i arg2 T1)) (hc3 : ¬isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5 o
            (accNext (wd c i arg1 T0) (wd c i arg2 T1) x0 x1 x2 x3 a) (cntNext (wd c i arg1 T0) (wd c i arg2 T1) x0 b) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel; simp only [k0_part1_eq_skeleton]; unfold k0_part1_skel
  have e0 := (View.readAt_full arg3.view (harg3.unread x0) inb_S1x1x32000_S1x1x32000_0_0_0).trans (harg3.read_unread x0)
  have e1 := (View.readAt_full arg4.view (harg4.unread x1) inb_S32000x128_S32000x128_0_0).trans (harg4.read_unread x1)
  have e2 := (View.readAt_full arg5.view (harg5.unread x2) inb_S128x128_S128x128_0_0).trans (harg5.read_unread x2)
  have e3 := (View.readAt_full arg6.view (harg6.unread x3) inb_S1x128_S1x128_0_0).trans (harg6.read_unread x3)
  have e4 := (View.readAt_full arg7.view (harg7.unread x4) inb_S128x128_S128x128_0_0).trans (harg7.read_unread x4)
  have e5 := (View.readAt_full arg8.view (harg8.unread x5) inb_S1x128_S1x128_0_0).trans (harg8.read_unread x5)
  have ea := fun f => View.readAt_full (Val := Elt F) arg10.view f inb_S1024x128_S1024x128_0_0
  have eb := fun f => View.readAt_full (Val := Elt F) arg11.view f inb_S1024x1_S1024x1_0_0
  have wo := fun f w L => View.read_writes_full (Val := Elt F) arg9.view f inb_S1024x128_S1024x128_0_0 w L
  have wa := fun f w L => View.read_writes_full (Val := Elt F) arg10.view f inb_S1024x128_S1024x128_0_0 w L
  have wb := fun f w L => View.read_writes_full (Val := Elt F) arg11.view f inb_S1024x1_S1024x1_0_0 w L
  have ra := fun f => View.readAt_unit (Val := Elt F) arg10.view f (k0_off2_inb _ _ hchk hc1) rfl (k0_off2_inb _ _ hchk hc1)
  have rb := fun f => View.readAt_unit (Val := Elt F) arg11.view f (k0_off3_inb _ _ hchk hc1) rfl (k0_off3_inb _ _ hchk hc1)
  unfold held owns
  iintro ⟨⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg9.eq_unread hf6; obtain rfl := harg10.eq_unread hfs0; obtain rfl := harg11.eq_unread hfs1
  sl_exec (disch := first | sl_exact hc0 | sl_exact hchk | sl_exact hc1 | sl_exact hc2 | sl_exact hc3)
  sl_step
  iapply Hk
  isplitl [HT0]; · iexact HT0
  isplitl [HT1]; · iexact HT1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr [H6]; rotate_left; · iexact H6
    ipureintro
    exact hf6
  isplitl [HS0]
  · iexists _; isplitr [HS0]; rotate_left; · iexact HS0
    ipureintro
    rw [accNext_narrow hchk hc1]
    try delta run_mid_narrow.sl.r
    simp only [e0, e1, e2, e3, e4, e5, ea, eb, wo, wa, wb, ra, rb, View.readCov, View.read_writes_cons_put _ _ _ _ _ rfl, View.writes_nil, hfs0, hfs1]; try rfl
  · iexists _; isplitr [HS1]; rotate_left; · iexact HS1
    ipureintro
    rw [cntNext_narrow hchk hc1]
    try delta run_mid_narrow.sl.r
    simp only [e0, e1, e2, e3, e4, e5, ea, eb, wo, wa, wb, ra, rb, View.readCov, View.read_writes_cons_put _ _ _ _ _ rfl, View.writes_nil, hfs0, hfs1]; try rfl

set_option maxHeartbeats 2000000 in
/-- The kernel's body at a middle point, its ids wider than the window. -/
theorem run_mid_wide (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hc0 : ¬isFirst i) (hchk : k0_chk1 (wd c i arg1 T0) (wd c i arg2 T1)) (hc1 : ¬isNarrow (wd c i arg1 T0) (wd c i arg2 T1)) (hc2 : isWide (wd c i arg1 T0) (wd c i arg2 T1)) (hc3 : ¬isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5 o
            (accNext (wd c i arg1 T0) (wd c i arg2 T1) x0 x1 x2 x3 a) (cntNext (wd c i arg1 T0) (wd c i arg2 T1) x0 b) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel; simp only [k0_part1_eq_skeleton]; unfold k0_part1_skel
  have e0 := (View.readAt_full arg3.view (harg3.unread x0) inb_S1x1x32000_S1x1x32000_0_0_0).trans (harg3.read_unread x0)
  have e1 := (View.readAt_full arg4.view (harg4.unread x1) inb_S32000x128_S32000x128_0_0).trans (harg4.read_unread x1)
  have e2 := (View.readAt_full arg5.view (harg5.unread x2) inb_S128x128_S128x128_0_0).trans (harg5.read_unread x2)
  have e3 := (View.readAt_full arg6.view (harg6.unread x3) inb_S1x128_S1x128_0_0).trans (harg6.read_unread x3)
  have e4 := (View.readAt_full arg7.view (harg7.unread x4) inb_S128x128_S128x128_0_0).trans (harg7.read_unread x4)
  have e5 := (View.readAt_full arg8.view (harg8.unread x5) inb_S1x128_S1x128_0_0).trans (harg8.read_unread x5)
  have ea := fun f => View.readAt_full (Val := Elt F) arg10.view f inb_S1024x128_S1024x128_0_0
  have eb := fun f => View.readAt_full (Val := Elt F) arg11.view f inb_S1024x1_S1024x1_0_0
  have wo := fun f w L => View.read_writes_full (Val := Elt F) arg9.view f inb_S1024x128_S1024x128_0_0 w L
  have wa := fun f w L => View.read_writes_full (Val := Elt F) arg10.view f inb_S1024x128_S1024x128_0_0 w L
  have wb := fun f w L => View.read_writes_full (Val := Elt F) arg11.view f inb_S1024x1_S1024x1_0_0 w L
  unfold held owns
  iintro ⟨⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg9.eq_unread hf6; obtain rfl := harg10.eq_unread hfs0; obtain rfl := harg11.eq_unread hfs1
  sl_exec (disch := first | sl_exact hc0 | sl_exact hchk | sl_exact hc1 | sl_exact hc2 | sl_exact hc3)
  sl_step
  iapply Hk
  isplitl [HT0]; · iexact HT0
  isplitl [HT1]; · iexact HT1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr [H6]; rotate_left; · iexact H6
    ipureintro
    exact hf6
  isplitl [HS0]
  · iexists _; isplitr [HS0]; rotate_left; · iexact HS0
    ipureintro
    rw [accNext_wide hc1]
    simp only [e0, e1, e2, e3, e4, e5, ea, eb, wo, wa, wb, View.readCov, View.read_writes_cons_put _ _ _ _ _ rfl, View.writes_nil, hfs0, hfs1]; try rfl
  · iexists _; isplitr [HS1]; rotate_left; · iexact HS1
    ipureintro
    rw [cntNext_wide hc1]
    simp only [e0, e1, e2, e3, e4, e5, ea, eb, wo, wa, wb, View.readCov, View.read_writes_cons_put _ _ _ _ _ rfl, View.writes_nil, hfs0, hfs1]; try rfl

set_option maxHeartbeats 2000000 in
/-- The kernel's body at the last point, its ids within the window. -/
theorem run_last_narrow (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hc0 : ¬isFirst i) (hchk : k0_chk1 (wd c i arg1 T0) (wd c i arg2 T1)) (hc1 : isNarrow (wd c i arg1 T0) (wd c i arg2 T1)) (hc2 : ¬isWide (wd c i arg1 T0) (wd c i arg2 T1)) (hc3 : isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5 (k0_pay11 (accNext (wd c i arg1 T0) (wd c i arg2 T1) x0 x1 x2 x3 a) (cntNext (wd c i arg1 T0) (wd c i arg2 T1) x0 b) x4 x5)
            (accNext (wd c i arg1 T0) (wd c i arg2 T1) x0 x1 x2 x3 a) (cntNext (wd c i arg1 T0) (wd c i arg2 T1) x0 b) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel; simp only [k0_part1_eq_skeleton]; unfold k0_part1_skel
  have e0 := (View.readAt_full arg3.view (harg3.unread x0) inb_S1x1x32000_S1x1x32000_0_0_0).trans (harg3.read_unread x0)
  have e1 := (View.readAt_full arg4.view (harg4.unread x1) inb_S32000x128_S32000x128_0_0).trans (harg4.read_unread x1)
  have e2 := (View.readAt_full arg5.view (harg5.unread x2) inb_S128x128_S128x128_0_0).trans (harg5.read_unread x2)
  have e3 := (View.readAt_full arg6.view (harg6.unread x3) inb_S1x128_S1x128_0_0).trans (harg6.read_unread x3)
  have e4 := (View.readAt_full arg7.view (harg7.unread x4) inb_S128x128_S128x128_0_0).trans (harg7.read_unread x4)
  have e5 := (View.readAt_full arg8.view (harg8.unread x5) inb_S1x128_S1x128_0_0).trans (harg8.read_unread x5)
  have ea := fun f => View.readAt_full (Val := Elt F) arg10.view f inb_S1024x128_S1024x128_0_0
  have eb := fun f => View.readAt_full (Val := Elt F) arg11.view f inb_S1024x1_S1024x1_0_0
  have wo := fun f w L => View.read_writes_full (Val := Elt F) arg9.view f inb_S1024x128_S1024x128_0_0 w L
  have wa := fun f w L => View.read_writes_full (Val := Elt F) arg10.view f inb_S1024x128_S1024x128_0_0 w L
  have wb := fun f w L => View.read_writes_full (Val := Elt F) arg11.view f inb_S1024x1_S1024x1_0_0 w L
  have ra := fun f => View.readAt_unit (Val := Elt F) arg10.view f (k0_off2_inb _ _ hchk hc1) rfl (k0_off2_inb _ _ hchk hc1)
  have rb := fun f => View.readAt_unit (Val := Elt F) arg11.view f (k0_off3_inb _ _ hchk hc1) rfl (k0_off3_inb _ _ hchk hc1)
  unfold held owns
  iintro ⟨⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg9.eq_unread hf6; obtain rfl := harg10.eq_unread hfs0; obtain rfl := harg11.eq_unread hfs1
  sl_exec (disch := first | sl_exact hc0 | sl_exact hchk | sl_exact hc1 | sl_exact hc2 | sl_exact hc3)
  sl_step
  iapply Hk
  isplitl [HT0]; · iexact HT0
  isplitl [HT1]; · iexact HT1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr [H6]; rotate_left; · iexact H6
    ipureintro
    rw [accNext_narrow hchk hc1, cntNext_narrow hchk hc1]
    try delta run_last_narrow.sl.HS0_1
    try delta run_last_narrow.sl.HS1_1
    try delta run_last_narrow.sl.r
    simp only [e0, e1, e2, e3, e4, e5, ea, eb, wo, wa, wb, ra, rb, View.readCov, View.read_writes_cons_put _ _ _ _ _ rfl, View.writes_nil, hfs0, hfs1]; try rfl
  isplitl [HS0]
  · iexists _; isplitr [HS0]; rotate_left; · iexact HS0
    ipureintro
    rw [accNext_narrow hchk hc1]
    try delta run_last_narrow.sl.HS0_1
    try delta run_last_narrow.sl.HS1_1
    try delta run_last_narrow.sl.r
    simp only [e0, e1, e2, e3, e4, e5, ea, eb, wo, wa, wb, ra, rb, View.readCov, View.read_writes_cons_put _ _ _ _ _ rfl, View.writes_nil, hfs0, hfs1]; try rfl
  · iexists _; isplitr [HS1]; rotate_left; · iexact HS1
    ipureintro
    rw [cntNext_narrow hchk hc1]
    try delta run_last_narrow.sl.HS0_1
    try delta run_last_narrow.sl.HS1_1
    try delta run_last_narrow.sl.r
    simp only [e0, e1, e2, e3, e4, e5, ea, eb, wo, wa, wb, ra, rb, View.readCov, View.read_writes_cons_put _ _ _ _ _ rfl, View.writes_nil, hfs0, hfs1]; try rfl

set_option maxHeartbeats 2000000 in
/-- The kernel's body at the last point, its ids wider than the window. -/
theorem run_last_wide (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hc0 : ¬isFirst i) (hchk : k0_chk1 (wd c i arg1 T0) (wd c i arg2 T1)) (hc1 : ¬isNarrow (wd c i arg1 T0) (wd c i arg2 T1)) (hc2 : isWide (wd c i arg1 T0) (wd c i arg2 T1)) (hc3 : isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5 (k0_pay11 (accNext (wd c i arg1 T0) (wd c i arg2 T1) x0 x1 x2 x3 a) (cntNext (wd c i arg1 T0) (wd c i arg2 T1) x0 b) x4 x5)
            (accNext (wd c i arg1 T0) (wd c i arg2 T1) x0 x1 x2 x3 a) (cntNext (wd c i arg1 T0) (wd c i arg2 T1) x0 b) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  simp only [cc0__body_eq_skeleton]; unfold cc0__body_skel; simp only [k0_part1_eq_skeleton]; unfold k0_part1_skel
  have e0 := (View.readAt_full arg3.view (harg3.unread x0) inb_S1x1x32000_S1x1x32000_0_0_0).trans (harg3.read_unread x0)
  have e1 := (View.readAt_full arg4.view (harg4.unread x1) inb_S32000x128_S32000x128_0_0).trans (harg4.read_unread x1)
  have e2 := (View.readAt_full arg5.view (harg5.unread x2) inb_S128x128_S128x128_0_0).trans (harg5.read_unread x2)
  have e3 := (View.readAt_full arg6.view (harg6.unread x3) inb_S1x128_S1x128_0_0).trans (harg6.read_unread x3)
  have e4 := (View.readAt_full arg7.view (harg7.unread x4) inb_S128x128_S128x128_0_0).trans (harg7.read_unread x4)
  have e5 := (View.readAt_full arg8.view (harg8.unread x5) inb_S1x128_S1x128_0_0).trans (harg8.read_unread x5)
  have ea := fun f => View.readAt_full (Val := Elt F) arg10.view f inb_S1024x128_S1024x128_0_0
  have eb := fun f => View.readAt_full (Val := Elt F) arg11.view f inb_S1024x1_S1024x1_0_0
  have wo := fun f w L => View.read_writes_full (Val := Elt F) arg9.view f inb_S1024x128_S1024x128_0_0 w L
  have wa := fun f w L => View.read_writes_full (Val := Elt F) arg10.view f inb_S1024x128_S1024x128_0_0 w L
  have wb := fun f w L => View.read_writes_full (Val := Elt F) arg11.view f inb_S1024x1_S1024x1_0_0 w L
  unfold held owns
  iintro ⟨⟨HT0, HT1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5
  obtain rfl := harg9.eq_unread hf6; obtain rfl := harg10.eq_unread hfs0; obtain rfl := harg11.eq_unread hfs1
  sl_exec (disch := first | sl_exact hc0 | sl_exact hchk | sl_exact hc1 | sl_exact hc2 | sl_exact hc3)
  sl_step
  iapply Hk
  isplitl [HT0]; · iexact HT0
  isplitl [HT1]; · iexact HT1
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  isplitl [H6]
  · iexists _; isplitr [H6]; rotate_left; · iexact H6
    ipureintro
    rw [accNext_wide hc1, cntNext_wide hc1]
    try delta run_last_wide.sl.v33
    try delta run_last_wide.sl.v34
    try delta run_last_wide.sl.HS0_1
    try delta run_last_wide.sl.HS1_1
    simp only [e0, e1, e2, e3, e4, e5, ea, eb, wo, wa, wb, View.readCov, View.read_writes_cons_put _ _ _ _ _ rfl, View.writes_nil, hfs0, hfs1]; try rfl
  isplitl [HS0]
  · iexists _; isplitr [HS0]; rotate_left; · iexact HS0
    ipureintro
    rw [accNext_wide hc1]
    try delta run_last_wide.sl.v33
    try delta run_last_wide.sl.v34
    try delta run_last_wide.sl.HS0_1
    try delta run_last_wide.sl.HS1_1
    simp only [e0, e1, e2, e3, e4, e5, ea, eb, wo, wa, wb, View.readCov, View.read_writes_cons_put _ _ _ _ _ rfl, View.writes_nil, hfs0, hfs1]; try rfl
  · iexists _; isplitr [HS1]; rotate_left; · iexact HS1
    ipureintro
    rw [cntNext_wide hc1]
    try delta run_last_wide.sl.v33
    try delta run_last_wide.sl.v34
    try delta run_last_wide.sl.HS0_1
    try delta run_last_wide.sl.HS1_1
    simp only [e0, e1, e2, e3, e4, e5, ea, eb, wo, wa, wb, View.readCov, View.read_writes_cons_put _ _ _ _ _ rfl, View.writes_nil, hfs0, hfs1]; try rfl

end Cert.KernelIdeal.Hand

end
-- ==== Proof.Ideal.Run.lean ====
module

public import proofs.«01_k».proof.Proof.Ideal.Body
public import Idealize.ShloMosaic.Lib.Pipeline.Frame
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two updates exclude each other and one of them is taken. -/
theorem wide_iff (lo hi : BitVec 32) : isWide lo hi ↔ ¬isNarrow lo hi := by
  have h : ∀ x : BitVec 1, Scalar.cmpi .ne (Scalar.extui (Scalar.xori x 1#1) : BitVec 32) 0#32 = 1#1 ↔ ¬Scalar.cmpi .ne (Scalar.extui x : BitVec 32) 0#32 = 1#1 := by decide
  exact h _

/-- The body at the first point: both totals start from zeros. -/
theorem run_first (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hf : isFirst i) (hchk : k0_chk1 (wd c i arg1 T0) (wd c i arg2 T1)) (hl : ¬isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5 o
            (accNext (wd c i arg1 T0) (wd c i arg2 T1) x0 x1 x2 x3 (k0_pay1 (F := F))) (cntNext (wd c i arg1 T0) (wd c i arg2 T1) x0 (k0_pay2 (F := F))) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  by_cases hn : isNarrow (wd c i arg1 T0) (wd c i arg2 T1)
  · exact run_first_narrow c i arg1 harg1 arg2 harg2 arg3 harg3 arg4 harg4 arg5 harg5 arg6 harg6 arg7 harg7 arg8 harg8 arg9 harg9 arg10 harg10 arg11 harg11 T0 T1 hf hchk hn (fun h => (wide_iff _ _).1 h hn) hl x0 x1 x2 x3 x4 x5 o a b E K
  · exact run_first_wide c i arg1 harg1 arg2 harg2 arg3 harg3 arg4 harg4 arg5 harg5 arg6 harg6 arg7 harg7 arg8 harg8 arg9 harg9 arg10 harg10 arg11 harg11 T0 T1 hf hchk hn ((wide_iff _ _).2 hn) hl x0 x1 x2 x3 x4 x5 o a b E K

/-- The body at a point between: both totals take their next values. -/
theorem run_mid (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hf : ¬isFirst i) (hchk : k0_chk1 (wd c i arg1 T0) (wd c i arg2 T1)) (hl : ¬isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5 o
            (accNext (wd c i arg1 T0) (wd c i arg2 T1) x0 x1 x2 x3 a) (cntNext (wd c i arg1 T0) (wd c i arg2 T1) x0 b) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  by_cases hn : isNarrow (wd c i arg1 T0) (wd c i arg2 T1)
  · exact run_mid_narrow c i arg1 harg1 arg2 harg2 arg3 harg3 arg4 harg4 arg5 harg5 arg6 harg6 arg7 harg7 arg8 harg8 arg9 harg9 arg10 harg10 arg11 harg11 T0 T1 hf hchk hn (fun h => (wide_iff _ _).1 h hn) hl x0 x1 x2 x3 x4 x5 o a b E K
  · exact run_mid_wide c i arg1 harg1 arg2 harg2 arg3 harg3 arg4 harg4 arg5 harg5 arg6 harg6 arg7 harg7 arg8 harg8 arg9 harg9 arg10 harg10 arg11 harg11 T0 T1 hf hchk hn ((wide_iff _ _).2 hn) hl x0 x1 x2 x3 x4 x5 o a b E K

/-- The body at the last point: the output block is computed from the totals. -/
theorem run_last (c : Dev nD) (i : grid0.Coords) (arg1 : Memref sig .tc .smem S10 .i32) (harg1 : arg1.IsWhole) (arg2 : Memref sig .tc .smem S10 .i32) (harg2 : arg2.IsWhole)
    (arg3 : Memref sig .tc .vmem S1x1x32000 .i32) (harg3 : arg3.IsWhole) (arg4 : Memref sig .tc .vmem S32000x128 .f32) (harg4 : arg4.IsWhole)
    (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole)
    (arg8 : Memref sig .tc .vmem S1x128 .f32) (harg8 : arg8.IsWhole) (arg9 : Memref sig .tc .vmem S1024x128 .f32) (harg9 : arg9.IsWhole)
    (arg10 : Memref sig .tc .vmem S1024x128 .f32) (harg10 : arg10.IsWhole) (arg11 : Memref sig .tc .vmem S1024x1 .f32) (harg11 : arg11.IsWhole)
    (T0 : Buf (Elt F) (arg1.view.loc (c : Thread nD τ))) (T1 : Buf (Elt F) (arg2.view.loc (c : Thread nD τ)))
    (hf : ¬isFirst i) (hchk : k0_chk1 (wd c i arg1 T0) (wd c i arg2 T1)) (hl : isLast i)
    (x0 : Vec F S1x1x32000 .i32) (x1 : Vec F S32000x128 .f32) (x2 : Vec F S128x128 .f32) (x3 : Vec F S1x128 .f32) (x4 : Vec F S128x128 .f32) (x5 : Vec F S1x128 .f32)
    (o : Vec F S1024x128 .f32) (a : Vec F S1024x128 .f32) (b : Vec F S1024x1 .f32) (E : Set ℕ) (K : PUnit → sProp 𝕄) :
    iprop(held c arg1 arg2 arg3 arg4 arg5 arg6 arg7 arg8 arg9 arg10 arg11 T0 T1 x0 x1 x2 x3 x4 x5 o a b
        ∗ (held c arg1 arg2 arg3 arg4 arg5 arg6 arg7 arg8 arg9 arg10 arg11 T0 T1 x0 x1 x2 x3 x4 x5
            (k0_pay11 (accNext (wd c i arg1 T0) (wd c i arg2 T1) x0 x1 x2 x3 a) (cntNext (wd c i arg1 T0) (wd c i arg2 T1) x0 b) x4 x5)
            (accNext (wd c i arg1 T0) (wd c i arg2 T1) x0 x1 x2 x3 a) (cntNext (wd c i arg1 T0) (wd c i arg2 T1) x0 b) -∗ K ⟨⟩))
      ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11) K := by
  by_cases hn : isNarrow (wd c i arg1 T0) (wd c i arg2 T1)
  · exact run_last_narrow c i arg1 harg1 arg2 harg2 arg3 harg3 arg4 harg4 arg5 harg5 arg6 harg6 arg7 harg7 arg8 harg8 arg9 harg9 arg10 harg10 arg11 harg11 T0 T1 hf hchk hn (fun h => (wide_iff _ _).1 h hn) hl x0 x1 x2 x3 x4 x5 o a b E K
  · exact run_last_wide c i arg1 harg1 arg2 harg2 arg3 harg3 arg4 harg4 arg5 harg5 arg6 harg6 arg7 harg7 arg8 harg8 arg9 harg9 arg10 harg10 arg11 harg11 T0 T1 hf hchk hn ((wide_iff _ _).2 hn) hl x0 x1 x2 x3 x4 x5 o a b E K

variable (m : (ℓ : Loc nD τ sig) → Buf (Elt F) ℓ) (ρ : Dev nD → PrngReg)

/-! ## The arrays and the tables when the grid starts -/

/-- Core `c`'s buffers after the host lines before the grid. -/
def V (c : Dev nD) (b : Ref sig .tc) : Buf (Elt F) ((c : Thread nD τ).loc b) := StableHlo.after hostOps0 (fun b => m (c, b)) b

/-- The two tables of words: the first and the last id of each block. -/
def tbl : pre0.Contents (Elt F) := fun j => V m (0 : Dev nD) (pre0.ref j)

theorem V_pre (c : Dev nD) (j : Fin 2) : V m c (pre0.ref j) = tbl m j := by
  obtain rfl : c = 0 := Subsingleton.elim _ _; rfl

theorem ok0_any (pf : pre0.Contents (Elt F)) : ok0 (F := F) pf := by unfold ok0; trivial

abbrev adm : (pcfg0 (F := F)).Adm := ⟨tbl m, ok0_any (F := F) (tbl m)⟩
abbrev cfgM : Cfg sig Λ₀ := cfg0 (adm m)
abbrev pins : (p : Fin 1) → (pcfgs (F := F) p).Adm := fun _ => adm m

/-- The tables' halves the grid hands the body, table by table. -/
theorem PhiT0_eq (c : Dev nD) : (Pipeline.ΦT pre0 (tbl m) c : sProp 𝕄)
    = iprop((tbM0.view.loc (c : Thread nD τ) ↦{fullShare.right} tbl m 0) ∗ (tbM1.view.loc (c : Thread nD τ) ↦{fullShare.right} tbl m 1)) := by
  unfold Pipeline.ΦT Pipeline.prefHeld
  rw [show (Finset.univ : Finset (Fin 2)) = insert (0 : Fin 2) {(1 : Fin 2)} from by decide, bigSep_insert (by decide), bigSep_singleton]
  rfl

set_option backward.isDefEq.respectTransparency.types false in
/-- The program up to the grid: the host lines, which leave the buffers at `V`. -/
theorem hmain : Pipeline.HMainP (Ix := Unit) (Name := ℕ) (U := UR sig nD τ) (Lvl := ℕ) pcfgs 0 defs₀ Variants.none m (main (F := F)) (V m) :=
  Pipeline.hmainP_prefix pcfgs 0 defs₀ Variants.none m main hostOps0 hostOps0_sub ⟨rfl, rfl, rfl, rfl, rfl⟩ fun c => (main_chain c).trans rfl

/-! ## The windows' blocks -/

/-- Window `w`'s block at point `t`, read off its array as the grid finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

theorem before_0_of {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ (cfgM m) c) (hA : dat.A 2 = V m c (Pipeline.arrRef spec0 2))
    (hafter : ∀ t, dat.after 2 t = iblk m c 2 t) (t : Fin (cfgM m).N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_3_of {c : Dev nD} (dat : Dat τ (Elt F) Unit ℕ (UR sig nD τ) ℕ (cfgM m) c) (hA : dat.A 3 = V m c (Pipeline.arrRef spec0 3))
    (hafter : ∀ t, dat.after 3 t = iblk m c 3 t) (t : Fin (cfgM m).N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_4_of {c : Dev nD} (dat : Dat τ (Elt F) Unit ℕ (UR sig nD τ) ℕ (cfgM m) c) (hA : dat.A 4 = V m c (Pipeline.arrRef spec0 4))
    (hafter : ∀ t, dat.after 4 t = iblk m c 4 t) (t : Fin (cfgM m).N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before_5_of {c : Dev nD} (dat : Dat τ (Elt F) Unit ℕ (UR sig nD τ) ℕ (cfgM m) c) (hA : dat.A 5 = V m c (Pipeline.arrRef spec0 5))
    (hafter : ∀ t, dat.after 5 t = iblk m c 5 t) (t : Fin (cfgM m).N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The conditions over the grid -/

theorem isFirst_iff : ∀ t : Fin grid0.N, isFirst (grid0.coords t) ↔ t.val = 0 := fun t => by
  have ht : t.val < 10 := Nat.lt_of_lt_of_eq t.isLt N_0
  have e0 : (grid0.coords t 0).val = t.val / 1 % 10 := Pipeline.Grid.coords_val t 0 (by decide) rfl
  simp only [isFirst, e0]
  word_cmp

theorem isLast_iff : ∀ t : Fin grid0.N, isLast (grid0.coords t) ↔ t.val = 9 := fun t => by
  have ht : t.val < 10 := Nat.lt_of_lt_of_eq t.isLt N_0
  have e0 : (grid0.coords t 0).val = t.val / 1 % 10 := Pipeline.Grid.coords_val t 0 (by decide) rfl
  simp only [isLast, k0_cond4, e0]
  word_cmp

/-- The output's block stays in place before the last point: nothing is written back there. -/
theorem idle_6 : ∀ t : Fin (cfgM m).N, ¬t.val = 9 → (cfgM m).idle 6 (grid0.coords t) = true := fun t h => by
  change (!(k0_cond4 (grid0.coords t) == 1#1)) = true
  have := (isLast_iff t).not.2 h
  simp only [isLast] at this
  simp [this]

theorem live_6 : ∀ t : Fin (cfgM m).N, t.val = 9 → (cfgM m).idle 6 (grid0.coords t) = false := fun t h => by
  change (!(k0_cond4 (grid0.coords t) == 1#1)) = false
  have := (isLast_iff t).2 h
  simp only [isLast] at this
  simp [this]

theorem noFlush_6 : ∀ t : Fin (cfgM m).N, ¬t.val = 9 → ((cfgM m).win 6).flush t = false := fun t h => by
  rcases fin_N0 t with rfl | rfl | rfl | rfl | rfl | rfl | rfl | rfl | rfl | rfl
  all_goals first | rfl | exact absurd rfl h

/-! ## The memrefs of a point -/

abbrev ms0 (t : Fin (cfgM m).N) := spec0_0.stage ((cfgM m).slots t 0)
abbrev hs0 (t : Fin (cfgM m).N) := hstage0_0 (((cfgM m).slots t 0).cast nbuf0_0)
abbrev ms1 (t : Fin (cfgM m).N) := spec0_1.stage ((cfgM m).slots t 1)
abbrev hs1 (t : Fin (cfgM m).N) := hstage0_1 (((cfgM m).slots t 1).cast nbuf0_1)
abbrev ms2 (t : Fin (cfgM m).N) := spec0_2.stage ((cfgM m).slots t 2)
abbrev hs2 (t : Fin (cfgM m).N) := hstage0_2 (((cfgM m).slots t 2).cast nbuf0_2)
abbrev ms3 (t : Fin (cfgM m).N) := spec0_3.stage ((cfgM m).slots t 3)
abbrev hs3 (t : Fin (cfgM m).N) := hstage0_3 (((cfgM m).slots t 3).cast nbuf0_3)
abbrev ms4 (t : Fin (cfgM m).N) := spec0_4.stage ((cfgM m).slots t 4)
abbrev hs4 (t : Fin (cfgM m).N) := hstage0_4 (((cfgM m).slots t 4).cast nbuf0_4)
abbrev ms5 (t : Fin (cfgM m).N) := spec0_5.stage ((cfgM m).slots t 5)
abbrev hs5 (t : Fin (cfgM m).N) := hstage0_5 (((cfgM m).slots t 5).cast nbuf0_5)
abbrev ms6 (t : Fin (cfgM m).N) := spec0_6.stage ((cfgM m).slots t 6)
abbrev hs6 (t : Fin (cfgM m).N) := hstage0_6 (((cfgM m).slots t 6).cast nbuf0_6)

/-- The body at point `t`, on the buffers the grid hands it. -/
abbrev bodyAt (t : Fin (cfgM m).N) : Prog (TpuEff nD τ sig (Elt F) Λ₀ .tc) PUnit :=
  cc0__body (grid0.coords t) tbM0 (Memref.isWhole_whole _) tbM1 (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) scM0 (Memref.isWhole_whole _) scM1 (Memref.isWhole_whole _)

/-! The six input blocks of point `t`. -/

def x0 (c : Dev nD) (t : Fin (cfgM m).N) : Vec F S1x1x32000 .i32 := iblk m c 0 t
def x1 (c : Dev nD) (t : Fin (cfgM m).N) : Vec F S32000x128 .f32 := iblk m c 1 t
def x2 (c : Dev nD) (t : Fin (cfgM m).N) : Vec F S128x128 .f32 := iblk m c 2 t
def x3 (c : Dev nD) (t : Fin (cfgM m).N) : Vec F S1x128 .f32 := iblk m c 3 t
def x4 (c : Dev nD) (t : Fin (cfgM m).N) : Vec F S128x128 .f32 := iblk m c 4 t
def x5 (c : Dev nD) (t : Fin (cfgM m).N) : Vec F S1x128 .f32 := iblk m c 5 t

/-- The first id of the block of point `t`, and the last: the words the body loads. -/
abbrev lo (c : Dev nD) (t : Fin (cfgM m).N) : BitVec 32 := wd (F := F) c (grid0.coords t) tbM0 (tbl m 0)
abbrev hi (c : Dev nD) (t : Fin (cfgM m).N) : BitVec 32 := wd (F := F) c (grid0.coords t) tbM1 (tbl m 1)

/-- The window's rows lie inside the accumulators at every point. -/
def Chk : Prop := ∀ (c : Dev nD) (t : Fin (cfgM m).N), k0_chk1 (lo m c t) (hi m c t)

/-- The running sums and counts before point `n`: zeros before the first. -/
def tot (c : Dev nD) : (n : ℕ) → n ≤ (cfgM m).N → Vec F S1024x128 .f32 × Vec F S1024x1 .f32
  | 0, _ => (k0_pay1 (F := F), k0_pay2 (F := F))
  | n + 1, h =>
    let t : Fin (cfgM m).N := ⟨n, h⟩
    (accNext (lo m c t) (hi m c t) (x0 m c t) (x1 m c t) (x2 m c t) (x3 m c t) (tot c n (Nat.le_of_succ_le h)).1,
     cntNext (lo m c t) (hi m c t) (x0 m c t) (tot c n (Nat.le_of_succ_le h)).2)

/-- The output computed from the totals after point `t`. -/
def outAt (c : Dev nD) (t : Fin (cfgM m).N) : Vec F S1024x128 .f32 :=
  k0_pay11 (tot m c (t.val + 1) t.isLt).1 (tot m c (t.val + 1) t.isLt).2 (x4 m c t) (x5 m c t)

/-- Beside the windows' buffers: the totals before point `n` in the scratch, and the tables. -/
def PhiS (c : Dev nD) : (n : ℕ) → n ≤ (cfgM m).N → sProp 𝕄
  | 0, _ => iprop(Pipeline.ΦA spec0 c ∗ Pipeline.ΦT pre0 (tbl m) c)
  | n + 1, h => iprop(((owns (c : Thread nD τ) scM0 fullShare (tot m c (n + 1) h).1 ∗ owns (c : Thread nD τ) scM1 fullShare (tot m c (n + 1) h).2)
      ∗ (∃ r, prngReg c r)) ∗ Pipeline.ΦT pre0 (tbl m) c)

theorem PhiS_zero (c : Dev nD) (n : ℕ) (h : n ≤ (cfgM m).N) (hz : n = 0) : PhiS m c n h = iprop(Pipeline.ΦA spec0 c ∗ Pipeline.ΦT pre0 (tbl m) c) := by
  subst hz; rfl

theorem PhiS_pos (c : Dev nD) (n : ℕ) (h : n ≤ (cfgM m).N) (hz : n ≠ 0) : PhiS m c n h
    = iprop(((owns (c : Thread nD τ) scM0 fullShare (tot m c n h).1 ∗ owns (c : Thread nD τ) scM1 fullShare (tot m c n h).2)
      ∗ (∃ r, prngReg c r)) ∗ Pipeline.ΦT pre0 (tbl m) c) := by
  obtain ⟨k, rfl⟩ := Nat.exists_eq_succ_of_ne_zero hz; rfl

theorem PhiA0_eq (c : Dev nD) : (Pipeline.ΦA spec0 c : sProp 𝕄)
    = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- The grid's proof data: each input's block stays, the output's block is `outAt`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ t := PhiS m c t.val (Nat.le_of_lt_succ t.isLt)
  q _ := fullShare
  owed _ := 0

theorem A_eq (c : Dev nD) (w : Fin (cfgM m).W) : (dats m 0 c).A w = V m c (Pipeline.arrRef spec0 w) := by
  dsimp only [dats]

theorem PhiS_castSucc (c : Dev nD) (t : Fin (cfgM m).N) : (dats m 0 c).Φ t.castSucc = PhiS m c t.val (Nat.le_of_lt t.isLt) := by
  dsimp only [dats]; exact Pipeline.Dat.Φ_castSucc (PhiS m c) t

theorem after_0 (c : Dev nD) (t : Fin (cfgM m).N) : (dats m 0 c).after 0 t = x0 m c t := rfl
theorem after_1 (c : Dev nD) (t : Fin (cfgM m).N) : (dats m 0 c).after 1 t = x1 m c t := rfl
theorem after_2 (c : Dev nD) (t : Fin (cfgM m).N) : (dats m 0 c).after 2 t = x2 m c t := rfl
theorem after_3 (c : Dev nD) (t : Fin (cfgM m).N) : (dats m 0 c).after 3 t = x3 m c t := rfl
theorem after_4 (c : Dev nD) (t : Fin (cfgM m).N) : (dats m 0 c).after 4 t = x4 m c t := rfl
theorem after_5 (c : Dev nD) (t : Fin (cfgM m).N) : (dats m 0 c).after 5 t = x5 m c t := rfl
theorem after_6 (c : Dev nD) (t : Fin (cfgM m).N) : (dats m 0 c).after 6 t = outAt m c t := rfl
theorem before_0 (c : Dev nD) (t : Fin (cfgM m).N) (d) : (dats m 0 c).before 0 t d = x0 m c t :=
  before_0_of m (dats m 0 c) (A_eq m c 0) (after_0 m c) t d
theorem before_1 (c : Dev nD) (t : Fin (cfgM m).N) (d) : (dats m 0 c).before 1 t d = x1 m c t :=
  before_1_of m (dats m 0 c) (A_eq m c 1) (after_1 m c) t d
theorem before_2 (c : Dev nD) (t : Fin (cfgM m).N) (d) : (dats m 0 c).before 2 t d = x2 m c t :=
  before_2_of m (dats m 0 c) (A_eq m c 2) (after_2 m c) t d
theorem before_3 (c : Dev nD) (t : Fin (cfgM m).N) (d) : (dats m 0 c).before 3 t d = x3 m c t :=
  before_3_of m (dats m 0 c) (A_eq m c 3) (after_3 m c) t d
theorem before_4 (c : Dev nD) (t : Fin (cfgM m).N) (d) : (dats m 0 c).before 4 t d = x4 m c t :=
  before_4_of m (dats m 0 c) (A_eq m c 4) (after_4 m c) t d
theorem before_5 (c : Dev nD) (t : Fin (cfgM m).N) (d) : (dats m 0 c).before 5 t d = x5 m c t :=
  before_5_of m (dats m 0 c) (A_eq m c 5) (after_5 m c) t d

def bodyPre (c : Dev nD) (t : Fin (cfgM m).N) : sProp 𝕄 :=
  iprop((dats m 0 c).Φ t.castSucc ∗ (dats m 0 c).owesAt () t.castSucc ∗ (∃ d, owns (c : Thread nD τ) (ms0 m t) fullShare ((dats m 0 c).before 0 t d)) ∗ (∃ d, owns (c : Thread nD τ) (ms1 m t) fullShare ((dats m 0 c).before 1 t d)) ∗ (∃ d, owns (c : Thread nD τ) (ms2 m t) fullShare ((dats m 0 c).before 2 t d)) ∗ (∃ d, owns (c : Thread nD τ) (ms3 m t) fullShare ((dats m 0 c).before 3 t d)) ∗ (∃ d, owns (c : Thread nD τ) (ms4 m t) fullShare ((dats m 0 c).before 4 t d)) ∗ (∃ d, owns (c : Thread nD τ) (ms5 m t) fullShare ((dats m 0 c).before 5 t d)) ∗ (∃ d, owns (c : Thread nD τ) (ms6 m t) fullShare ((dats m 0 c).before 6 t d)))
def bodyPost (c : Dev nD) (t : Fin (cfgM m).N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t)

theorem tot_zero (c : Dev nD) (n : ℕ) (h : n ≤ (cfgM m).N) (hz : n = 0) : tot m c n h = (k0_pay1 (F := F), k0_pay2 (F := F)) := by
  subst hz; rfl
theorem tot_succ1 (c : Dev nD) (t : Fin (cfgM m).N) : (tot m c (t.val + 1) t.isLt).1
    = accNext (lo m c t) (hi m c t) (x0 m c t) (x1 m c t) (x2 m c t) (x3 m c t) (tot m c t.val (Nat.le_of_lt t.isLt)).1 := by rw [tot]
theorem tot_succ2 (c : Dev nD) (t : Fin (cfgM m).N) : (tot m c (t.val + 1) t.isLt).2
    = cntNext (lo m c t) (hi m c t) (x0 m c t) (tot m c t.val (Nat.le_of_lt t.isLt)).2 := by rw [tot]

end Cert.KernelIdeal.Hand

end
-- ==== Proof.Ideal.Launch.lean ====
module

public import proofs.«01_k».proof.Proof.Ideal.Run
public import Idealize.ShloMosaic.Lib.Pipeline.Frame
public import Idealize.ShloMosaic.Lib.StableHlo.RunRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The body at any point, between the proof data's states. -/
theorem sound_body (hchk : Chk m) (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_pos m c (t.val + 1) _ (Nat.succ_ne_zero _), PhiS_castSucc m c t]
  have hN : t.val < 10 := lt_of_lt_of_eq t.isLt (show (cfgM m).N = 10 from N_0)
  have hfl : isFirst (grid0.coords t) → ¬isLast (grid0.coords t) := fun h h' => by
    have := (isFirst_iff t).1 h; have := (isLast_iff t).1 h'; omega
  rw [show (dats m 0 c).leavesExact 0 t = owns (c : Thread nD τ) (ms0 m t) fullShare (x0 m c t) from by
    unfold Dat.leavesExact; rw [show (cfgM m).idle 0 (grid0.coords t) = false from rfl]; exact congrArg (owns _ _ _) (after_0 m c t)]
  rw [show (dats m 0 c).leavesExact 1 t = owns (c : Thread nD τ) (ms1 m t) fullShare (x1 m c t) from by
    unfold Dat.leavesExact; rw [show (cfgM m).idle 1 (grid0.coords t) = false from rfl]; exact congrArg (owns _ _ _) (after_1 m c t)]
  rw [show (dats m 0 c).leavesExact 2 t = owns (c : Thread nD τ) (ms2 m t) fullShare (x2 m c t) from by
    unfold Dat.leavesExact; rw [show (cfgM m).idle 2 (grid0.coords t) = false from rfl]; exact congrArg (owns _ _ _) (after_2 m c t)]
  rw [show (dats m 0 c).leavesExact 3 t = owns (c : Thread nD τ) (ms3 m t) fullShare (x3 m c t) from by
    unfold Dat.leavesExact; rw [show (cfgM m).idle 3 (grid0.coords t) = false from rfl]; exact congrArg (owns _ _ _) (after_3 m c t)]
  rw [show (dats m 0 c).leavesExact 4 t = owns (c : Thread nD τ) (ms4 m t) fullShare (x4 m c t) from by
    unfold Dat.leavesExact; rw [show (cfgM m).idle 4 (grid0.coords t) = false from rfl]; exact congrArg (owns _ _ _) (after_4 m c t)]
  rw [show (dats m 0 c).leavesExact 5 t = owns (c : Thread nD τ) (ms5 m t) fullShare (x5 m c t) from by
    unfold Dat.leavesExact; rw [show (cfgM m).idle 5 (grid0.coords t) = false from rfl]; exact congrArg (owns _ _ _) (after_5 m c t)]
  by_cases h0 : t.val = 0
  · have h9 : ¬t.val = 9 := by omega
    rw [Dat.leavesExact_idle (dats m 0 c) 6 t (idle_6 m t h9) (noFlush_6 m t h9)]
    have eA : (tot m c (t.val + 1) t.isLt).1 = accNext (lo m c t) (hi m c t) (x0 m c t) (x1 m c t) (x2 m c t) (x3 m c t) (k0_pay1 (F := F)) := (tot_succ1 m c t).trans (by rw [tot_zero m c t.val _ h0])
    have eB : (tot m c (t.val + 1) t.isLt).2 = cntNext (lo m c t) (hi m c t) (x0 m c t) (k0_pay2 (F := F)) := (tot_succ2 m c t).trans (by rw [tot_zero m c t.val _ h0])
    have hf := (isFirst_iff t).2 h0
    have hl := hfl hf
    rw [PhiS_zero m c _ _ h0, PhiA0_eq, PhiT0_eq]
    iintro ⟨⟨⟨⟨⟨%d7, HS0⟩, ⟨%d8, HS1⟩⟩, Hg⟩, HT0, HT1⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) tbM0 (Memref.isWhole_whole _) tbM1 (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) scM0 (Memref.isWhole_whole _) scM1 (Memref.isWhole_whole _) (tbl m 0) (tbl m 1) hf (hchk c t) hl (x0 m c t) (x1 m c t) (x2 m c t) (x3 m c t) (x4 m c t) (x5 m c t) _ _ _ Set.univ _)
    isplitl [HT0 HT1 H0 H1 H2 H3 H4 H5 H6 HS0 HS1]
    · skip
      isplitl [HT0]; · iexact HT0
      isplitl [HT1]; · iexact HT1
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iexact HS1
    iintro ⟨HT0, HT1, H0, H1, H2, H3, H4, H5, H6, HS0, HS1⟩
    isplitl [HS0 HS1 Hg HT0 HT1]
    · isplitl [HS0 HS1 Hg]
      · isplitl [HS0 HS1]
        · isplitl [HS0]
          · rw [eA]; iexact HS0
          rw [eB]; iexact HS1
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6
  · have hf : ¬isFirst (grid0.coords t) := (isFirst_iff t).not.2 h0
    have eA := tot_succ1 m c t
    have eB := tot_succ2 m c t
    by_cases h9 : t.val = 9
    · rw [show (dats m 0 c).leavesExact 6 t = owns (c : Thread nD τ) (ms6 m t) fullShare (outAt m c t) from by
        unfold Dat.leavesExact; rw [live_6 m t h9]; exact congrArg (owns _ _ _) (after_6 m c t)]
      have hl := (isLast_iff t).2 h9
      rw [PhiS_pos m c t.val _ h0, PhiT0_eq]
      iintro ⟨⟨⟨⟨HS0, HS1⟩, Hg⟩, HT0, HT1⟩, Ho, ⟨%d0, H0⟩, ⟨%d1, H1⟩, ⟨%d2, H2⟩, ⟨%d3, H3⟩, ⟨%d4, H4⟩, ⟨%d5, H5⟩, ⟨%d6, H6⟩⟩
      iapply (run_last c (grid0.coords t) tbM0 (Memref.isWhole_whole _) tbM1 (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) scM0 (Memref.isWhole_whole _) scM1 (Memref.isWhole_whole _) (tbl m 0) (tbl m 1) hf (hchk c t) hl (x0 m c t) (x1 m c t) (x2 m c t) (x3 m c t) (x4 m c t) (x5 m c t) _ _ _ Set.univ _)
      isplitl [HT0 HT1 H0 H1 H2 H3 H4 H5 H6 HS0 HS1]
      · skip
        isplitl [HT0]; · iexact HT0
        isplitl [HT1]; · iexact HT1
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iexact HS1
      iintro ⟨HT0, HT1, H0, H1, H2, H3, H4, H5, H6, HS0, HS1⟩
      isplitl [HS0 HS1 Hg HT0 HT1]
      · isplitl [HS0 HS1 Hg]
        · isplitl [HS0 HS1]
          · isplitl [HS0]
            · rw [eA]; iexact HS0
            rw [eB]; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold outAt; rw [eA, eB]; iexact H6
    · rw [Dat.leavesExact_idle (dats m 0 c) 6 t (idle_6 m t h9) (noFlush_6 m t h9)]
      have hl := (isLast_iff t).not.2 h9
      rw [PhiS_pos m c t.val _ h0, PhiT0_eq]
      iintro ⟨⟨⟨⟨HS0, HS1⟩, Hg⟩, HT0, HT1⟩, Ho, ⟨%d0, H0⟩, ⟨%d1, H1⟩, ⟨%d2, H2⟩, ⟨%d3, H3⟩, ⟨%d4, H4⟩, ⟨%d5, H5⟩, ⟨%d6, H6⟩⟩
      iapply (run_mid c (grid0.coords t) tbM0 (Memref.isWhole_whole _) tbM1 (Memref.isWhole_whole _) (ms0 m t) (hs0 m t) (ms1 m t) (hs1 m t) (ms2 m t) (hs2 m t) (ms3 m t) (hs3 m t) (ms4 m t) (hs4 m t) (ms5 m t) (hs5 m t) (ms6 m t) (hs6 m t) scM0 (Memref.isWhole_whole _) scM1 (Memref.isWhole_whole _) (tbl m 0) (tbl m 1) hf (hchk c t) hl (x0 m c t) (x1 m c t) (x2 m c t) (x3 m c t) (x4 m c t) (x5 m c t) _ _ _ Set.univ _)
      isplitl [HT0 HT1 H0 H1 H2 H3 H4 H5 H6 HS0 HS1]
      · skip
        isplitl [HT0]; · iexact HT0
        isplitl [HT1]; · iexact HT1
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HS0]; · iexact HS0
        iexact HS1
      iintro ⟨HT0, HT1, H0, H1, H2, H3, H4, H5, H6, HS0, HS1⟩
      isplitl [HS0 HS1 Hg HT0 HT1]
      · isplitl [HS0 HS1 Hg]
        · isplitl [HS0 HS1]
          · isplitl [HS0]
            · rw [eA]; iexact HS0
            rw [eB]; iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The grid's body is the kernel's body at the point's buffers. -/
theorem defs₀_row (t : Fin (cfgM m).N) :
    defs₀ (F := F) .tc (cfgM m).body ((cfgM m).bodyArgs t ((cfgM m).slots t)) = bodyAt m t := by
  unfold defs₀; rw [Defs.onTc_tc]

theorem body_obligation (hchk : Chk m) (c : Dev nD) : BodyObligation (dats (F := F) m 0 c) (defs₀ (F := F)) Variants.none () Set.univ := fun t => by
  rw [bigSep_W0, bigSep_W0, defs₀_row]
  exact triple_restated (sound_body m hchk c t) rfl .rfl fun _ => .rfl

theorem hin (c : Dev nD) : iprop(Pipeline.ΦA spec0 c ∗ Pipeline.ΦT pre0 (tbl m) c) ⊢ (dats m 0 c).Φ 0 := by
  rw [show (dats m 0 c).Φ 0 = PhiS m c 0 (Nat.zero_le _) from rfl, PhiS_zero m c 0 _ rfl]

theorem hout (c : Dev nD) : (dats m 0 c).Φ (Fin.last (cfgM m).N) ⊢ Pipeline.ΦA spec0 c := by
  rw [show (dats m 0 c).Φ (Fin.last (cfgM m).N) = PhiS m c (cfgM m).N (le_refl _) from rfl,
    PhiS_pos m c _ _ (by have : (cfgM m).N = 10 := N_0; omega), PhiA0_eq]
  iintro ⟨⟨⟨HS0, HS1⟩, Hg⟩, HT⟩
  isplitl [HS0 HS1]
  · isplitl [HS0]
    · iexists _; iexact HS0
    iexists _; iexact HS1
  iexact Hg

set_option backward.isDefEq.respectTransparency.types false in
/-- The whole program: every array of the grid ends at what the proof data says, every other buffer as the grid found it,
    and every semaphore at zero. -/
theorem run_main (hchk : Chk m) : θ_run defs (onTc (τ := τ) (main (F := F))) ⟨m, fun _ => 0, ρ⟩
    (fun r => Pipeline.FramePost (Pipeline.pin pcfgs (pins m)) (dats m) 0 (V m) r ∧ r.2.sem = fun _ => 0) :=
  Pipeline.θ_run_frameP_track (Q' := fun r => Pipeline.FramePost (Pipeline.pin pcfgs (pins m)) (dats m) 0 (V m) r ∧ r.2.sem = fun _ => 0)
    pcfgs (pins m) (0 : Fin 1) (dats := dats m) launch0 defs₀ Variants.none m ρ main
    (hbody := fun c => (body_obligation m hchk c).loose) (hshare := fun c => (dats m 0 c).share_full fun _ => rfl)
    (howed := fun _ _ => rfl) (V := V m) (hmain := hmain m) (hA := A_eq m) (hpf := fun c k => V_pre m c k) (hin := hin m) (hout := hout m)
    (hQ' := fun _ h => h)

/-! ## The arguments end as they started -/

theorem V_main_arg0 (c : Dev nD) : V m c main_arg0 = m ((c : Thread nD τ).loc main_arg0) :=
  StableHlo.after_unwritten [main_call0_v0, main_call0_v1, main_call0_v2, main_call0_v3, main_call0_v4] rfl (by decide) _
theorem V_main_arg1 (c : Dev nD) : V m c main_arg1 = m ((c : Thread nD τ).loc main_arg1) :=
  StableHlo.after_unwritten [main_call0_v0, main_call0_v1, main_call0_v2, main_call0_v3, main_call0_v4] rfl (by decide) _
theorem V_main_arg2 (c : Dev nD) : V m c main_arg2 = m ((c : Thread nD τ).loc main_arg2) :=
  StableHlo.after_unwritten [main_call0_v0, main_call0_v1, main_call0_v2, main_call0_v3, main_call0_v4] rfl (by decide) _
theorem V_main_arg3 (c : Dev nD) : V m c main_arg3 = m ((c : Thread nD τ).loc main_arg3) :=
  StableHlo.after_unwritten [main_call0_v0, main_call0_v1, main_call0_v2, main_call0_v3, main_call0_v4] rfl (by decide) _
theorem V_main_arg4 (c : Dev nD) : V m c main_arg4 = m ((c : Thread nD τ).loc main_arg4) :=
  StableHlo.after_unwritten [main_call0_v0, main_call0_v1, main_call0_v2, main_call0_v3, main_call0_v4] rfl (by decide) _
theorem V_main_arg5 (c : Dev nD) : V m c main_arg5 = m ((c : Thread nD τ).loc main_arg5) :=
  StableHlo.after_unwritten [main_call0_v0, main_call0_v1, main_call0_v2, main_call0_v3, main_call0_v4] rfl (by decide) _

/-- What the run leaves in the result: the output window's array after the last point; the arguments unchanged; the
    semaphores at zero. -/
theorem run_post (hchk : Chk m) : θ_run defs (onTc (τ := τ) (main (F := F))) ⟨m, fun _ => 0, ρ⟩
    (fun r => (∀ c : Dev nD, r.2.mem ((c.tc : Thread nD τ).loc main_v0) = (dats m 0 c).arrAt 6 (cfgM m).N ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run defs _ _).mono (fun r h => ⟨fun c => ⟨(h.1 c).1 6, ((h.1 c).1 1).trans (((dats m 0 c).arrAt_in 1 rfl _).trans ((A_eq m c 1).trans (V_main_arg0 m c))),
    ((h.1 c).2 main_arg1 (show _ ∈ Pipeline.restRefs sig spec0 from by decide)).trans (V_main_arg1 m c), ((h.1 c).1 2).trans (((dats m 0 c).arrAt_in 2 rfl _).trans ((A_eq m c 2).trans (V_main_arg2 m c))),
    ((h.1 c).2 main_arg3 (show _ ∈ Pipeline.restRefs sig spec0 from by decide)).trans (V_main_arg3 m c), ((h.1 c).1 4).trans (((dats m 0 c).arrAt_in 4 rfl _).trans ((A_eq m c 4).trans (V_main_arg4 m c))),
    ((h.1 c).2 main_arg5 (show _ ∈ Pipeline.restRefs sig spec0 from by decide)).trans (V_main_arg5 m c)⟩, h.2⟩) (run_main m ρ hchk)

/-- The frame: the arguments end unchanged and every semaphore at zero. -/
theorem frame_run (hchk : Chk m) : θ_run defs (onTc (τ := τ) (main (F := F))) ⟨m, fun _ => 0, ρ⟩
    (fun r => (∀ c : Dev nD, r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5)) ∧ r.2.sem = fun _ => 0) :=
  (θ_run defs _ _).mono (fun r h => ⟨fun c => (h.1 c).2, h.2⟩) (run_post m ρ hchk)

end Cert.KernelIdeal.Hand

end
-- ==== Proof.Ideal.Tables.lean ====
module

public import proofs.«01_k».proof.Proof.Ideal.Launch
public import proofs.«01_k».proof.Proof.Ids

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.Ids (row)

variable (m : (ℓ : Loc nD τ sig) → Buf (Elt F) ℓ) (ρ : Dev nD → PrngReg)

/-- The id array on core `c`. -/
abbrev ids (c : Dev nD) : IVec S320000 32 := m ((c : Thread nD τ).loc main_arg1)

theorem V_v0 (c : Dev nD) : (V m c main_call0_v0 : IVec S10x1x32000 32) = shapeCast S10x1x32000 (ids m c) shapeCasts_S320000_S10x1x32000 := by
  unfold V hostOps0
  after_reads_simp
  rfl

theorem V_v1 (c : Dev nD) : (V m c main_call0_v1 : IVec S10 32) = Host.slice S10 ![0] ![32000] (ids m c) slicesBy_S320000_S10_0s32000 := by
  unfold V hostOps0
  after_reads_simp
  rfl

theorem V_v2 (c : Dev nD) : (V m c main_call0_v2 : IVec S10 32) = Host.slice S10 ![31999] ![32000] (ids m c) slicesBy_S320000_S10_31999s32000 := by
  unfold V hostOps0
  after_reads_simp
  rfl

theorem V_v3 (c : Dev nD) : (V m c main_call0_v3 : Vec F S1x128 .f32) = shapeCast S1x128 (m ((c : Thread nD τ).loc main_arg3) : Vec F S128 .f32) shapeCasts_S128_S1x128 := by
  unfold V hostOps0
  after_reads_simp
  rfl

theorem V_v4 (c : Dev nD) : (V m c main_call0_v4 : Vec F S1x128 .f32) = shapeCast S1x128 (m ((c : Thread nD τ).loc main_arg5) : Vec F S128 .f32) shapeCasts_S128_S1x128 := by
  unfold V hostOps0
  after_reads_simp
  rfl

theorem lt_N (t : Fin (cfgM m).N) : t.val < 10 := lt_of_lt_of_eq t.isLt (show (cfgM m).N = 10 from N_0)

theorem coord0 (t : Fin grid0.N) : (grid0.coords t 0).val = t.val := by
  have ht : t.val < 10 := Nat.lt_of_lt_of_eq t.isLt N_0
  have e0 : (grid0.coords t 0).val = t.val / 1 % 10 := Pipeline.Grid.coords_val t 0 (by decide) rfl
  omega

/-- The table of first ids at point `t`: the id of row `32000 t`. -/
theorem lo_eq (c : Dev nD) (t : Fin (cfgM m).N) : lo m c t = ids m c (row (32000 * t.val) (by have := lt_N m t; omega)) := by
  obtain rfl : c = 0 := Subsingleton.elim _ _
  have e0 := coord0 t
  show (V m 0 main_call0_v1 : IVec S10 32) ((Rect.unit (s := S10) (k0_off1 (grid0.coords t)) S1.size (k0_off1_inb _)).emb (Shape.Idx.first _)) = _
  rw [V_v1, Host.slice]
  refine congrArg (ids m 0) (funext fun a => ?_)
  obtain rfl : a = 0 := Subsingleton.elim _ _
  apply Fin.ext
  show 0 + 32000 * (k0_off1 (grid0.coords t) 0 + 1 * 0) = 32000 * t.val
  rw [k0_off1_eq]
  show 0 + 32000 * ((grid0.coords t 0).val + 1 * 0) = 32000 * t.val
  omega

/-- The table of last ids at point `t`: the id of row `32000 t + 31999`. -/
theorem hi_eq (c : Dev nD) (t : Fin (cfgM m).N) : hi m c t = ids m c (row (31999 + 32000 * t.val) (by have := lt_N m t; omega)) := by
  obtain rfl : c = 0 := Subsingleton.elim _ _
  have e0 := coord0 t
  show (V m 0 main_call0_v2 : IVec S10 32) ((Rect.unit (s := S10) (k0_off1 (grid0.coords t)) S1.size (k0_off1_inb _)).emb (Shape.Idx.first _)) = _
  rw [V_v2, Host.slice]
  refine congrArg (ids m 0) (funext fun a => ?_)
  obtain rfl : a = 0 := Subsingleton.elim _ _
  apply Fin.ext
  show 31999 + 32000 * (k0_off1 (grid0.coords t) 0 + 1 * 0) = 31999 + 32000 * t.val
  rw [k0_off1_eq]
  show 31999 + 32000 * ((grid0.coords t 0).val + 1 * 0) = 31999 + 32000 * t.val
  omega

/-- With sorted ids the window lies inside the accumulators at every point. -/
theorem chk_of_sorted (h : ∀ c, Cert.Ids.Sorted (ids m c)) : Chk m := fun c t => by
  have hl : (lo m c t).toNat < 1024 := by rw [lo_eq]; exact (h c).lt _ _
  have hb := Cert.Ids.base_toNat _ hl
  refine ⟨fun _ a => ?_, fun _ a => ?_⟩
  · match a with
    | ⟨0, _⟩ => show (Cert.Ids.base (lo m c t)).toNat + 128 ≤ 1024; omega
    | ⟨1, _⟩ => show 0 + 128 ≤ 128; omega
  · match a with
    | ⟨0, _⟩ => show (Cert.Ids.base (lo m c t)).toNat + 128 ≤ 1024; omega
    | ⟨1, _⟩ => show 0 + 1 ≤ 1; omega

end Cert.KernelIdeal.Hand

end
-- ==== Proof.Ideal.Pay.lean ====
module

public import proofs.«01_k».proof.Proof.Ideal.Body
public import proofs.«01_k».proof.Proof.Ids
public import Idealize.ShloMosaic.Lib.MatmulPlain
public import Idealize.ShloMosaic.Lib.IdealHost
public import Idealize.ShloMosaic.Lib.ValueIdx
public import Idealize.ShloMosaic.Lib.ValueLayout
public import Idealize.ShloMosaic.Lib.Pipeline.Value

@[expose] public section

set_option maxRecDepth 16384

/-!
The body's pure values over the extended reals, read at an index.
-/

noncomputable section

namespace Cert.KernelIdeal.Hand

open Idealize.ShloMosaic Idealize.ShloMosaic.ValueIdx
open Cert.KernelIdeal Cert.KernelIdeal.Gen
open Cert.Ids (base)

/-- A row spread over the rows of a matrix, read at an index. -/
theorem spread_row {α : Type} {m n : ℕ} (hn : n ≠ 1) (x : (⟨2, ![1, n]⟩ : Shape).Idx → α) (h : (⟨2, ![1, n]⟩ : Shape).Broadcasts ⟨2, ![m, n]⟩)
    (r : Fin m) (d : Fin n) : broadcastTo ⟨2, ![m, n]⟩ x h (ix2 r d) = x (ix2 0 d) :=
  broadcastTo_apply x h _ _ fun a => match a with
    | ⟨0, _⟩ => (if_pos rfl).symm
    | ⟨1, _⟩ => (if_neg hn).symm

/-- A column spread over the columns of a matrix, read at an index. -/
theorem spread_col {α : Type} {m n : ℕ} (hm : m ≠ 1) (x : (⟨2, ![m, 1]⟩ : Shape).Idx → α) (h : (⟨2, ![m, 1]⟩ : Shape).Broadcasts ⟨2, ![m, n]⟩)
    (r : Fin m) (d : Fin n) : broadcastTo ⟨2, ![m, n]⟩ x h (ix2 r d) = x (ix2 r 0) :=
  broadcastTo_apply x h _ _ fun a => match a with
    | ⟨0, _⟩ => (if_neg hm).symm
    | ⟨1, _⟩ => (if_pos rfl).symm

/-- A vector as one column, read at an index. -/
theorem col_apply {α : Type} {m : ℕ} (x : (⟨1, ![m]⟩ : Shape).Idx → α) (h : (⟨1, ![m]⟩ : Shape).ShapeCasts ⟨2, ![m, 1]⟩)
    (r : Fin m) : shapeCast ⟨2, ![m, 1]⟩ x h (ix2 r 0) = x (ix1 r) :=
  shapeCast_apply x h _ _ (by
    rw [Shape.rowMajor_val_one, Shape.rowMajor_val_two]
    show r.val = r.val * 1 + 0
    omega)

/-- The row sums of a matrix, read at an index. -/
theorem rowsum_apply {m n : ℕ} (x : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (r : Fin m) :
    multiReduction .add [1] ⟨1, ![m]⟩ x 0x00000000#32 h hφ hacc (ix1 r) = ∑ k : Fin n, x (ix2 r k) := by
  refine (Ideal.multiReduction_add_single x _ h hφ hacc (ix1 r)).trans (Finset.sum_congr rfl fun k _ => congrArg x ?_)
  funext a
  match a with
  | ⟨0, _⟩ => rfl
  | ⟨1, _⟩ => rfl

/-- The number of a bit: one when it is set. -/
theorem bit_real (b : BitVec 1) : ((((b.setWidth 32).toInt : ℤ) : ℝ) : EReal) = if b = 1#1 then 1 else 0 := by
  rcases BitVec.eq_zero_or_eq_one b with rfl | rfl
  · rw [if_neg (by decide)]
    show (((0 : ℤ) : ℝ) : EReal) = 0
    simp
  · rw [if_pos rfl]
    show (((1 : ℤ) : ℝ) : EReal) = 1
    simp

/-- The ids of a block as a row, read at an index. -/
theorem pay4_apply (v15 : Vec Ideal S1x1x32000 .i32) (r : Fin 32000) : k0_pay4 v15 (ix2 0 r) = v15 (ix3 0 0 r) :=
  shapeCast_1ab_ab_apply v15 shapeCasts_S1x1x32000_S1x32000 0 r

/-- The first layer of a block with its rectifier, read at an index. -/
theorem pay3_apply (x : Vec Ideal S32000x128 .f32) (w : Vec Ideal S128x128 .f32) (b : Vec Ideal S1x128 .f32) (r : Fin 32000) (d : Fin 128) :
    k0_pay3 x w b (ix2 r d) = max ((∑ k : Fin 128, x (ix2 r k) * w (ix2 k d)) + b (ix2 0 d)) 0 := by
  show max (FloatOps.matmul (F := Ideal) (φ₁ := .bf16) (φ₂ := .bf16) (DotDims.plain 32000 128 128) none x w (constant (F := Ideal) S32000x128 .f32 0x00000000#32) (ix2 r d)
      + broadcastTo S32000x128 (shapeCast S1x128 b shapeCasts_S1x128_S1x128) broadcasts_S1x128_S32000x128 (ix2 r d)) (Ideal.ofBits .f32 0x00000000#32) = _
  rw [Ideal.matmul_plain_apply, shapeCast_self, spread_row (by decide) b, constant_apply, Ideal.ofBits_zero_f32, zero_add]

/-- The one-hot of a block over the window's 128 segments, read at an index. -/
theorem pay5_apply (v15 : Vec Ideal S1x1x32000 .i32) (lo : BitVec 32) (a : Fin 128) (r : Fin 32000) :
    (k0_pay5 v15 lo : FVec Ideal S128x32000 .bf16) (ix2 a r) = if BitVec.ofNat 32 a.val + base lo = v15 (ix3 0 0 r) then 1 else 0 := by
  refine (bit_real _).trans (if_congr ?_ rfl rfl)
  show IntOp.cmpi .eq _ _ = 1#1 ↔ _
  rw [spread_row (by decide) (k0_pay4 v15), pay4_apply]
  show BitVec.ofBool _ = 1#1 ↔ _
  rw [StableHlo.Predicate.ofBool_eq_one_iff, beq_iff_eq]
  show BitVec.ofNat 32 (0 * 128 + a.val) + _ = _ ↔ _
  rw [Nat.zero_mul, Nat.zero_add]
  rfl

/-- The one-hot of a block over all segments, read at an index. -/
theorem pay8_apply (v15 : Vec Ideal S1x1x32000 .i32) (a : Fin 1024) (r : Fin 32000) :
    (k0_pay8 v15 : FVec Ideal S1024x32000 .bf16) (ix2 a r) = if BitVec.ofNat 32 a.val = v15 (ix3 0 0 r) then 1 else 0 := by
  refine (bit_real _).trans (if_congr ?_ rfl rfl)
  show IntOp.cmpi .eq _ _ = 1#1 ↔ _
  rw [spread_row (by decide) (k0_pay4 v15), pay4_apply]
  show BitVec.ofBool _ = 1#1 ↔ _
  rw [StableHlo.Predicate.ofBool_eq_one_iff, beq_iff_eq]
  show BitVec.ofNat 32 (0 * 1024 + a.val) = _ ↔ _
  rw [Nat.zero_mul, Nat.zero_add]

/-- The sums over the window's segments after a block. -/
theorem pay6_apply (x : Vec Ideal S32000x128 .f32) (w : Vec Ideal S128x128 .f32) (b : Vec Ideal S1x128 .f32) (v15 : Vec Ideal S1x1x32000 .i32)
    (lo : BitVec 32) (v : Vec Ideal S128x128 .f32) (a : Fin 128) (d : Fin 128) :
    k0_pay6 x w b v15 lo v (ix2 a d) = v (ix2 a d) + ∑ r : Fin 32000, (if BitVec.ofNat 32 a.val + base lo = v15 (ix3 0 0 r) then k0_pay3 x w b (ix2 r d) else 0) := by
  unfold k0_pay6
  rw [shapeCast_self]
  show v (ix2 a d) + FloatOps.matmul (F := Ideal) (φ₁ := .bf16) (φ₂ := .bf16) (DotDims.plain 128 32000 128) none (k0_pay5 v15 lo) (k0_pay3 x w b)
    (constant (F := Ideal) S128x128 .f32 0x00000000#32) (ix2 a d) = _
  rw [Ideal.matmul_plain_apply, constant_apply, Ideal.ofBits_zero_f32, zero_add]
  refine congrArg (v (ix2 a d) + ·) (Finset.sum_congr rfl fun r _ => ?_)
  rw [pay5_apply, ite_mul, one_mul, zero_mul]

/-- The counts of the window's segments after a block. -/
theorem pay7_apply (v15 : Vec Ideal S1x1x32000 .i32) (lo : BitVec 32) (v : Vec Ideal S128x1 .f32) (a : Fin 128) :
    k0_pay7 v15 lo v (ix2 a 0) = v (ix2 a 0) + ∑ r : Fin 32000, (if BitVec.ofNat 32 a.val + base lo = v15 (ix3 0 0 r) then 1 else 0) := by
  unfold k0_pay7
  rw [shapeCast_self]
  show v (ix2 a 0) + shapeCast S128x1 _ shapeCasts_S128_S128x1 (ix2 a 0) = _
  rw [col_apply]
  exact congrArg (v (ix2 a 0) + ·) ((rowsum_apply _ _ _ _ a).trans (Finset.sum_congr rfl fun r _ => pay5_apply v15 lo a r))

/-- The sums over all segments after a block. -/
theorem pay9_apply (x : Vec Ideal S32000x128 .f32) (w : Vec Ideal S128x128 .f32) (b : Vec Ideal S1x128 .f32) (v15 : Vec Ideal S1x1x32000 .i32)
    (v : Vec Ideal S1024x128 .f32) (a : Fin 1024) (d : Fin 128) :
    k0_pay9 x w b v15 v (ix2 a d) = v (ix2 a d) + ∑ r : Fin 32000, (if BitVec.ofNat 32 a.val = v15 (ix3 0 0 r) then k0_pay3 x w b (ix2 r d) else 0) := by
  unfold k0_pay9
  rw [shapeCast_self]
  show v (ix2 a d) + FloatOps.matmul (F := Ideal) (φ₁ := .bf16) (φ₂ := .bf16) (DotDims.plain 1024 32000 128) none (k0_pay8 v15) (k0_pay3 x w b)
    (constant (F := Ideal) S1024x128 .f32 0x00000000#32) (ix2 a d) = _
  rw [Ideal.matmul_plain_apply, constant_apply, Ideal.ofBits_zero_f32, zero_add]
  refine congrArg (v (ix2 a d) + ·) (Finset.sum_congr rfl fun r _ => ?_)
  rw [pay8_apply, ite_mul, one_mul, zero_mul]

/-- The counts of all segments after a block. -/
theorem pay10_apply (v15 : Vec Ideal S1x1x32000 .i32) (v : Vec Ideal S1024x1 .f32) (a : Fin 1024) :
    k0_pay10 v15 v (ix2 a 0) = v (ix2 a 0) + ∑ r : Fin 32000, (if BitVec.ofNat 32 a.val = v15 (ix3 0 0 r) then 1 else 0) := by
  unfold k0_pay10
  rw [shapeCast_self]
  show v (ix2 a 0) + shapeCast S1024x1 _ shapeCasts_S1024_S1024x1 (ix2 a 0) = _
  rw [col_apply]
  exact congrArg (v (ix2 a 0) + ·) ((rowsum_apply _ _ _ _ a).trans (Finset.sum_congr rfl fun r _ => pay8_apply v15 a r))

/-- The output: the means through the second layer. -/
theorem pay11_apply (s : Vec Ideal S1024x128 .f32) (n : Vec Ideal S1024x1 .f32) (w : Vec Ideal S128x128 .f32) (b : Vec Ideal S1x128 .f32)
    (a : Fin 1024) (e : Fin 128) :
    k0_pay11 s n w b (ix2 a e) = (∑ d : Fin 128, Ideal.div (s (ix2 a d)) (max (n (ix2 a 0)) 1) * w (ix2 d e)) + b (ix2 0 e) := by
  unfold k0_pay11
  show FloatOps.matmul (F := Ideal) (φ₁ := .f32) (φ₂ := .f32) (DotDims.plain 1024 128 128) none _ w
    (constant (F := Ideal) S1024x128 .f32 0x00000000#32) (ix2 a e) + broadcastTo S1024x128 (shapeCast S1x128 b shapeCasts_S1x128_S1x128) broadcasts_S1x128_S1024x128 (ix2 a e) = _
  rw [Ideal.matmul_plain_apply, constant_apply, Ideal.ofBits_zero_f32, zero_add, shapeCast_self, spread_row (by decide) b]
  refine congrArg (· + b (ix2 0 e)) (Finset.sum_congr rfl fun d _ => congrArg (· * w (ix2 d e)) ?_)
  rw [divf_apply, spread_col (by decide)]
  show Ideal.div _ (max _ (Ideal.ofBits .f32 0x3F800000#32)) = _
  rw [Ideal.ofBits_one_f32]

/-- The sums start at zero. -/
theorem pay1_apply (i : S1024x128.Idx) : (k0_pay1 : FVec Ideal S1024x128 .f32) i = 0 := by
  unfold k0_pay1
  rw [shapeCast_self]
  exact Ideal.ofBits_zero_f32

/-- The counts start at zero. -/
theorem pay2_apply (i : S1024x1.Idx) : (k0_pay2 : FVec Ideal S1024x1 .f32) i = 0 := by
  unfold k0_pay2
  rw [shapeCast_self]
  exact Ideal.ofBits_zero_f32

end Cert.KernelIdeal.Hand
-- ==== Proof.Ideal.Blocks.lean ====
module

public import proofs.«01_k».proof.Proof.Ideal.Tables
public import Idealize.ShloMosaic.Lib.ValueIdx
public import Idealize.ShloMosaic.Lib.Pipeline.Value

@[expose] public section

set_option maxRecDepth 16384

/-!
The windows' blocks, read at an index of their arrays, and the output array after the run.
-/

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open Cert.Ids (row)

variable {F : FTy → Type} [FloatOps F]
variable (m : (ℓ : Loc nD τ sig) → Buf (Elt F) ℓ)

/-! ## The block indices of the grid's points -/

theorem index0 (t : Fin (cfgM m).N) : ((cfgM m).win 0).index t = ![t.val, 0, 0] := by
  funext a
  match a with
  | ⟨0, _⟩ =>
    show (BitVec.ofNat 32 (grid0.coords t 0).val).toNat = t.val
    rw [coord0, BitVec.toNat_ofNat]
    have := lt_N m t
    omega
  | ⟨1, _⟩ => rfl
  | ⟨2, _⟩ => rfl
theorem index1 (t : Fin (cfgM m).N) : ((cfgM m).win 1).index t = ![t.val, 0] := by
  funext a
  match a with
  | ⟨0, _⟩ =>
    show (BitVec.ofNat 32 (grid0.coords t 0).val).toNat = t.val
    rw [coord0, BitVec.toNat_ofNat]
    have := lt_N m t
    omega
  | ⟨1, _⟩ => rfl
theorem index2 (t : Fin (cfgM m).N) : ((cfgM m).win 2).index t = ![0, 0] := by
  funext a; match a with | ⟨0, _⟩ => rfl | ⟨1, _⟩ => rfl
theorem index3 (t : Fin (cfgM m).N) : ((cfgM m).win 3).index t = ![0, 0] := by
  funext a; match a with | ⟨0, _⟩ => rfl | ⟨1, _⟩ => rfl
theorem index4 (t : Fin (cfgM m).N) : ((cfgM m).win 4).index t = ![0, 0] := by
  funext a; match a with | ⟨0, _⟩ => rfl | ⟨1, _⟩ => rfl
theorem index5 (t : Fin (cfgM m).N) : ((cfgM m).win 5).index t = ![0, 0] := by
  funext a; match a with | ⟨0, _⟩ => rfl | ⟨1, _⟩ => rfl
theorem index6 (t : Fin (cfgM m).N) : ((cfgM m).win 6).index t = ![0, 0] := by
  funext a; match a with | ⟨0, _⟩ => rfl | ⟨1, _⟩ => rfl

/-! ## The blocks -/

/-- A vector as one row, read at an index. -/
theorem row_apply {α : Type} {n : ℕ} (x : (⟨1, ![n]⟩ : Shape).Idx → α) (h : (⟨1, ![n]⟩ : Shape).ShapeCasts ⟨2, ![1, n]⟩) (d : Fin n) :
    shapeCast ⟨2, ![1, n]⟩ x h (ix2 0 d) = x (ix1 d) :=
  shapeCast_apply x h _ _ (by
    rw [Shape.rowMajor_val_one, Shape.rowMajor_val_two]
    show d.val = 0 * n + d.val
    omega)

/-- The ids cut into blocks, read at an index. -/
theorem blocks_apply (x : IVec S320000 32) (q : Fin 10) (r : Fin 32000) :
    shapeCast S10x1x32000 x shapeCasts_S320000_S10x1x32000 (ix3 q 0 r) = x (row (32000 * q.val + r.val) (by have := q.isLt; have := r.isLt; omega)) :=
  shapeCast_apply x _ _ _ (by
    refine (Shape.rowMajor_val_one (d := ![320000]) _).trans ((Shape.rowMajor_val_three _).trans ?_).symm
    show (q.val * 1 + 0) * 32000 + r.val = 32000 * q.val + r.val
    omega)

/-- The ids of point `t`'s block. -/
theorem x0_apply (c : Dev nD) (t : Fin (cfgM m).N) (r : Fin 32000) :
    x0 m c t (ix3 0 0 r) = ids m c (row (32000 * t.val + r.val) (by have := lt_N m t; have := r.isLt; omega)) := by
  have e : ((((cfgM m).win 0).blk t).view.emb (ix3 0 0 r) : S10x1x32000.Idx) = ix3 ⟨t.val, lt_N m t⟩ 0 r := by
    funext a
    apply Fin.ext
    have h0 : ((((cfgM m).win 0).blk t).view.emb (ix3 0 0 r) (0 : Fin 3)).val = ((cfgM m).win 0).index t (0 : Fin 3) * 1 + 1 * 0 := rfl
    have h1 : ((((cfgM m).win 0).blk t).view.emb (ix3 0 0 r) (1 : Fin 3)).val = ((cfgM m).win 0).index t (1 : Fin 3) * 1 + 1 * 0 := rfl
    have h2 : ((((cfgM m).win 0).blk t).view.emb (ix3 0 0 r) (2 : Fin 3)).val = ((cfgM m).win 0).index t (2 : Fin 3) * 32000 + 1 * r.val := rfl
    rw [index0] at h0 h1 h2
    match a with
    | ⟨0, _⟩ => refine h0.trans ?_; show t.val * 1 + 1 * 0 = t.val; omega
    | ⟨1, _⟩ => refine h1.trans ?_; show 0 * 1 + 1 * 0 = 0; omega
    | ⟨2, _⟩ => refine h2.trans ?_; show 0 * 32000 + 1 * r.val = r.val; omega
  show (V m c main_call0_v0 : IVec S10x1x32000 32) ((((cfgM m).win 0).blk t).view.emb (ix3 0 0 r)) = _
  rw [V_v0]
  exact (congrArg (shapeCast S10x1x32000 (ids m c) shapeCasts_S320000_S10x1x32000) e).trans (blocks_apply (ids m c) ⟨t.val, lt_N m t⟩ r)

/-- The rows of point `t`'s block. -/
theorem x1_apply (c : Dev nD) (t : Fin (cfgM m).N) (r : Fin 32000) (d : Fin 128) :
    x1 m c t (ix2 r d) = (m ((c : Thread nD τ).loc main_arg0) : Vec F S320000x128 .f32)
      (ix2 ⟨32000 * t.val + r.val, by have := lt_N m t; have := r.isLt; omega⟩ d) := by
  show (V m c main_arg0 : Vec F S320000x128 .f32) ((((cfgM m).win 1).blk t).view.emb (ix2 r d)) = _
  rw [V_main_arg0]
  refine congrArg _ (funext fun a => Fin.ext ?_)
  have h0 : ((((cfgM m).win 1).blk t).view.emb (ix2 r d) (0 : Fin 2)).val = ((cfgM m).win 1).index t (0 : Fin 2) * 32000 + 1 * r.val := rfl
  have h1 : ((((cfgM m).win 1).blk t).view.emb (ix2 r d) (1 : Fin 2)).val = ((cfgM m).win 1).index t (1 : Fin 2) * 128 + 1 * d.val := rfl
  rw [index1] at h0 h1
  match a with
  | ⟨0, _⟩ => refine h0.trans ?_; show t.val * 32000 + 1 * r.val = 32000 * t.val + r.val; omega
  | ⟨1, _⟩ => refine h1.trans ?_; show 0 * 128 + 1 * d.val = d.val; omega

/-- The first layer's weights. -/
theorem x2_eq (c : Dev nD) (t : Fin (cfgM m).N) : x2 m c t = (m ((c : Thread nD τ).loc main_arg2) : Vec F S128x128 .f32) := by
  funext y
  show (V m c main_arg2 : Vec F S128x128 .f32) ((((cfgM m).win 2).blk t).view.emb y) = _
  rw [V_main_arg2]
  refine congrArg _ (funext fun a => Fin.ext ?_)
  have h0 : ((((cfgM m).win 2).blk t).view.emb y (0 : Fin 2)).val = ((cfgM m).win 2).index t (0 : Fin 2) * 128 + 1 * (y 0).val := rfl
  have h1 : ((((cfgM m).win 2).blk t).view.emb y (1 : Fin 2)).val = ((cfgM m).win 2).index t (1 : Fin 2) * 128 + 1 * (y 1).val := rfl
  rw [index2] at h0 h1
  match a with
  | ⟨0, _⟩ => refine h0.trans ?_; show 0 * 128 + 1 * (y 0).val = (y 0).val; omega
  | ⟨1, _⟩ => refine h1.trans ?_; show 0 * 128 + 1 * (y 1).val = (y 1).val; omega

/-- The second layer's weights. -/
theorem x4_eq (c : Dev nD) (t : Fin (cfgM m).N) : x4 m c t = (m ((c : Thread nD τ).loc main_arg4) : Vec F S128x128 .f32) := by
  funext y
  show (V m c main_arg4 : Vec F S128x128 .f32) ((((cfgM m).win 4).blk t).view.emb y) = _
  rw [V_main_arg4]
  refine congrArg _ (funext fun a => Fin.ext ?_)
  have h0 : ((((cfgM m).win 4).blk t).view.emb y (0 : Fin 2)).val = ((cfgM m).win 4).index t (0 : Fin 2) * 128 + 1 * (y 0).val := rfl
  have h1 : ((((cfgM m).win 4).blk t).view.emb y (1 : Fin 2)).val = ((cfgM m).win 4).index t (1 : Fin 2) * 128 + 1 * (y 1).val := rfl
  rw [index4] at h0 h1
  match a with
  | ⟨0, _⟩ => refine h0.trans ?_; show 0 * 128 + 1 * (y 0).val = (y 0).val; omega
  | ⟨1, _⟩ => refine h1.trans ?_; show 0 * 128 + 1 * (y 1).val = (y 1).val; omega

/-- The first layer's bias. -/
theorem x3_apply (c : Dev nD) (t : Fin (cfgM m).N) (d : Fin 128) :
    x3 m c t (ix2 0 d) = (m ((c : Thread nD τ).loc main_arg3) : Vec F S128 .f32) (ix1 d) := by
  have e : ((((cfgM m).win 3).blk t).view.emb (ix2 0 d) : S1x128.Idx) = ix2 0 d := by
    funext a
    apply Fin.ext
    have h0 : ((((cfgM m).win 3).blk t).view.emb (ix2 0 d) (0 : Fin 2)).val = ((cfgM m).win 3).index t (0 : Fin 2) * 1 + 1 * 0 := rfl
    have h1 : ((((cfgM m).win 3).blk t).view.emb (ix2 0 d) (1 : Fin 2)).val = ((cfgM m).win 3).index t (1 : Fin 2) * 128 + 1 * d.val := rfl
    rw [index3] at h0 h1
    match a with
    | ⟨0, _⟩ => refine h0.trans ?_; show 0 * 1 + 1 * 0 = 0; omega
    | ⟨1, _⟩ => refine h1.trans ?_; show 0 * 128 + 1 * d.val = d.val; omega
  show (V m c main_call0_v3 : Vec F S1x128 .f32) ((((cfgM m).win 3).blk t).view.emb (ix2 0 d)) = _
  rw [V_v3]
  exact (congrArg (shapeCast S1x128 (m ((c : Thread nD τ).loc main_arg3) : Vec F S128 .f32) shapeCasts_S128_S1x128) e).trans (row_apply _ _ d)

/-- The second layer's bias. -/
theorem x5_apply (c : Dev nD) (t : Fin (cfgM m).N) (d : Fin 128) :
    x5 m c t (ix2 0 d) = (m ((c : Thread nD τ).loc main_arg5) : Vec F S128 .f32) (ix1 d) := by
  have e : ((((cfgM m).win 5).blk t).view.emb (ix2 0 d) : S1x128.Idx) = ix2 0 d := by
    funext a
    apply Fin.ext
    have h0 : ((((cfgM m).win 5).blk t).view.emb (ix2 0 d) (0 : Fin 2)).val = ((cfgM m).win 5).index t (0 : Fin 2) * 1 + 1 * 0 := rfl
    have h1 : ((((cfgM m).win 5).blk t).view.emb (ix2 0 d) (1 : Fin 2)).val = ((cfgM m).win 5).index t (1 : Fin 2) * 128 + 1 * d.val := rfl
    rw [index5] at h0 h1
    match a with
    | ⟨0, _⟩ => refine h0.trans ?_; show 0 * 1 + 1 * 0 = 0; omega
    | ⟨1, _⟩ => refine h1.trans ?_; show 0 * 128 + 1 * d.val = d.val; omega
  show (V m c main_call0_v4 : Vec F S1x128 .f32) ((((cfgM m).win 5).blk t).view.emb (ix2 0 d)) = _
  rw [V_v4]
  exact (congrArg (shapeCast S1x128 (m ((c : Thread nD τ).loc main_arg5) : Vec F S128 .f32) shapeCasts_S128_S1x128) e).trans (row_apply _ _ d)

/-! ## The output array -/

/-- The last point of the grid. -/
abbrev tLast : Fin (cfgM m).N := ⟨9, lt_of_lt_of_eq (by decide) (show 10 = (cfgM m).N from N_0.symm)⟩

/-- An index of the output array is its own place in point `t`'s block. -/
theorem emb6 (t : Fin (cfgM m).N) (y : S1024x128.Idx) : (((cfgM m).win 6).blk t).view.emb y = y := by
  funext a
  apply Fin.ext
  have h0 : ((((cfgM m).win 6).blk t).view.emb y (0 : Fin 2)).val = ((cfgM m).win 6).index t (0 : Fin 2) * 1024 + 1 * (y 0).val := rfl
  have h1 : ((((cfgM m).win 6).blk t).view.emb y (1 : Fin 2)).val = ((cfgM m).win 6).index t (1 : Fin 2) * 128 + 1 * (y 1).val := rfl
  rw [index6] at h0 h1
  match a with
  | ⟨0, _⟩ => refine h0.trans ?_; show 0 * 1024 + 1 * (y 0).val = (y 0).val; omega
  | ⟨1, _⟩ => refine h1.trans ?_; show 0 * 128 + 1 * (y 1).val = (y 1).val; omega

theorem flush_last : ((cfgM m).win 6).flush (tLast m) = true := rfl

/-- After the run the output array holds what the last point left. -/
theorem final6 (c : Dev nD) : (dats m 0 c).arrAt 6 (cfgM m).N = (outAt m c (tLast m) : Vec F S1024x128 .f32) := by
  refine (dats m 0 c).arrAt_eq_of_cover 6 _ (fun t hf => ?_) fun i => ⟨tLast m, flush_last m, ?_⟩
  · have ht : t.val = 9 := by
      by_contra h
      rw [noFlush_6 m t h] at hf
      exact absurd hf (by decide)
    obtain rfl : t = tLast m := Fin.ext ht
    funext y
    show outAt m c (tLast m) y = outAt m c (tLast m) ((((cfgM m).win 6).blk (tLast m)).view.emb y)
    exact congrArg (outAt m c (tLast m)) (emb6 m (tLast m) y).symm
  · exact Finset.mem_map.2 ⟨i, Finset.mem_univ _, emb6 m (tLast m) i⟩

end Cert.KernelIdeal.Hand

end
-- ==== Proof.Spec.lean ====
module

public import proofs.«01_k».proof.Proof.Ids
public import Idealize.ShloMosaic.Lib.ValueIdx
public import Idealize.ShloMosaic.PureOps.Ideal

@[expose] public section

/-!
What both programs compute, over the extended reals: the first layer with its rectifier, the sums and counts of the
rows of a segment, and the second layer of the means.
-/

noncomputable section

namespace Cert.Spec

open Idealize.ShloMosaic Idealize.ShloMosaic.ValueIdx
open Cert.Ids (row)

variable (x : (⟨2, ![320000, 128]⟩ : Shape).Idx → EReal) (b : IVec Cert.Ids.SB 32) (w₁ w₂ : (⟨2, ![128, 128]⟩ : Shape).Idx → EReal)
  (c₁ c₂ : (⟨1, ![128]⟩ : Shape).Idx → EReal)

/-- Row `r` after the first layer and the rectifier, at lane `d`. -/
def lin (r : Fin 320000) (d : Fin 128) : EReal := max ((∑ k : Fin 128, x (ix2 r k) * w₁ (ix2 k d)) + c₁ (ix1 d)) 0

/-- The segment of row `r`. -/
def seg (r : Fin 320000) : ℕ := (b (row r.val r.isLt)).toNat

/-- The sum of segment `s` at lane `d`. -/
def sum (s : ℕ) (d : Fin 128) : EReal := ∑ r : Fin 320000, if seg b r = s then lin x w₁ c₁ r d else 0

/-- The number of rows of segment `s`. -/
def cnt (s : ℕ) : EReal := ∑ r : Fin 320000, if seg b r = s then 1 else 0

/-- The second layer of the mean of segment `s`, at lane `e`. -/
def out (s : Fin 1024) (e : Fin 128) : EReal :=
  (∑ d : Fin 128, Ideal.div (sum x b w₁ c₁ s.val d) (max (cnt b s.val) 1) * w₂ (ix2 d e)) + c₂ (ix1 e)

end Cert.Spec

end
-- ==== Proof.Ideal.Step.lean ====
module

public import proofs.«01_k».proof.Proof.Ideal.Pay
public import proofs.«01_k».proof.Proof.Ideal.Blocks
public import proofs.«01_k».proof.Proof.Spec

@[expose] public section

set_option maxRecDepth 16384

/-!
What one point of the grid adds to the sums and the counts, and the totals after the last point.
-/

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen
open Cert.Ids (row base base_toNat narrow_iff)

/-! ## Rows of the window and words of the ids -/

/-- A put over the rows from `B`, read at row `B + q`. -/
theorem put_in {α : Type} {n : ℕ} (x : (⟨2, ![1024, n]⟩ : Shape).Idx → α) (B : ℕ) (w : (⟨2, ![128, n]⟩ : Shape).Idx → α)
    (s : Fin 1024) (d : Fin n) (q : Fin 128) (hq : B + q.val = s.val) :
    VecWindow.put x ![B, 0] ![128, n] w (ix2 s d) = w (ix2 q d) := by
  have h : ∀ a : Fin 2, (![B, 0] : Fin 2 → ℕ) a ≤ (ix2 s d a).val ∧ (ix2 s d a).val < (![B, 0] : Fin 2 → ℕ) a + (![128, n] : Fin 2 → ℕ) a := fun a => match a with
    | ⟨0, _⟩ => by
      have := q.isLt
      constructor
      · show B ≤ s.val; omega
      · show s.val < B + 128; omega
    | ⟨1, _⟩ => by
      have := d.isLt
      constructor
      · show 0 ≤ d.val; omega
      · show d.val < 0 + n; omega
  unfold VecWindow.put
  rw [dif_pos h]
  refine congrArg w (funext fun a => Fin.ext ?_)
  match a with
  | ⟨0, _⟩ => show s.val - B = q.val; omega
  | ⟨1, _⟩ => show d.val - 0 = d.val; omega

/-- A put over the rows from `B`, read at a row outside of them. -/
theorem put_out {α : Type} {n : ℕ} (x : (⟨2, ![1024, n]⟩ : Shape).Idx → α) (B : ℕ) (w : (⟨2, ![128, n]⟩ : Shape).Idx → α)
    (s : Fin 1024) (d : Fin n) (hs : s.val < B ∨ B + 128 ≤ s.val) :
    VecWindow.put x ![B, 0] ![128, n] w (ix2 s d) = x (ix2 s d) := by
  have h : ¬ ∀ a : Fin 2, (![B, 0] : Fin 2 → ℕ) a ≤ (ix2 s d a).val ∧ (ix2 s d a).val < (![B, 0] : Fin 2 → ℕ) a + (![128, n] : Fin 2 → ℕ) a := fun h => by
    have h0 : B ≤ s.val ∧ s.val < B + 128 := h 0
    omega
  unfold VecWindow.put
  rw [dif_neg h]

/-- The window of the rows from `B`, read at its row `q`. -/
theorem window_at {α : Type} {n : ℕ} (x : (⟨2, ![1024, n]⟩ : Shape).Idx → α) (B : ℕ) (inb : ∀ a, (![B, 0] : Fin 2 → ℕ) a + (![128, n] : Fin 2 → ℕ) a ≤ (⟨2, ![1024, n]⟩ : Shape).size a)
    (s : Fin 1024) (d : Fin n) (q : Fin 128) (hq : B + q.val = s.val) :
    VecWindow.window x ![B, 0] ![128, n] inb (ix2 q d) = x (ix2 s d) := by
  unfold VecWindow.window
  refine congrArg x (funext fun a => Fin.ext ?_)
  match a with
  | ⟨0, _⟩ => show B + 1 * q.val = s.val; omega
  | ⟨1, _⟩ => show 0 + 1 * d.val = d.val; omega

/-- The segment number of the window's row `a` is an id. -/
theorem word_window (a : Fin 128) (bs w : BitVec 32) (hb : bs.toNat ≤ 896) : BitVec.ofNat 32 a.val + bs = w ↔ w.toNat = bs.toNat + a.val := by
  have ha := a.isLt
  have e : (BitVec.ofNat 32 a.val + bs).toNat = bs.toNat + a.val := by
    rw [BitVec.toNat_add, BitVec.toNat_ofNat]
    omega
  constructor
  · rintro rfl; exact e
  · intro h; exact BitVec.eq_of_toNat_eq (e.trans h.symm)

/-- A segment number is an id. -/
theorem word_full (a : Fin 1024) (w : BitVec 32) : BitVec.ofNat 32 a.val = w ↔ w.toNat = a.val := by
  have ha := a.isLt
  have e : (BitVec.ofNat 32 a.val).toNat = a.val := by
    rw [BitVec.toNat_ofNat]
    omega
  constructor
  · rintro rfl; exact e
  · intro h; exact BitVec.eq_of_toNat_eq (e.trans h.symm)

/-! ## One block -/

section Block

variable (lo hi : BitVec 32) (hl : lo.toNat < 1024) (hh : hi.toNat < 1024) (hle : lo.toNat ≤ hi.toNat) (hk : k0_chk1 lo hi)
  (x0 : Vec Ideal S1x1x32000 .i32) (hx : ∀ r : Fin 32000, lo.toNat ≤ (x0 (ix3 0 0 r)).toNat ∧ (x0 (ix3 0 0 r)).toNat ≤ hi.toNat)

include hl hh hle hk hx in
/-- What one block adds to the sums: to each segment the rows whose id it is. -/
theorem accNext_apply (x1 : Vec Ideal S32000x128 .f32) (x2 : Vec Ideal S128x128 .f32) (x3 : Vec Ideal S1x128 .f32) (a : Vec Ideal S1024x128 .f32) (s : Fin 1024) (d : Fin 128) :
    accNext lo hi x0 x1 x2 x3 a (ix2 s d) = a (ix2 s d) + ∑ r : Fin 32000, (if (x0 (ix3 0 0 r)).toNat = s.val then k0_pay3 x1 x2 x3 (ix2 r d) else 0) := by
  have hB := base_toNat lo hl
  by_cases hn : isNarrow lo hi
  · have hw : hi.toNat < (base lo).toNat + 128 := (narrow_iff lo hi hl hh hle).1 hn
    rw [accNext_narrow hk hn]
    by_cases hs : (base lo).toNat ≤ s.val ∧ s.val < (base lo).toNat + 128
    · let q : Fin 128 := ⟨s.val - (base lo).toNat, by omega⟩
      have hq : (base lo).toNat + q.val = s.val := by show (base lo).toNat + (s.val - (base lo).toNat) = s.val; omega
      refine (put_in a (base lo).toNat _ s d q hq).trans ((pay6_apply x1 x2 x3 x0 lo _ q d).trans ?_)
      refine congrArg₂ (· + ·) (window_at a (base lo).toNat _ s d q hq) (Finset.sum_congr rfl fun r _ => if_congr ?_ rfl rfl)
      rw [word_window q (base lo) _ (by omega), hq]
    · refine (put_out a (base lo).toNat _ s d (by omega)).trans ?_
      refine ((congrArg (a (ix2 s d) + ·) (Finset.sum_eq_zero fun r _ => if_neg ?_)).trans (add_zero _)).symm
      have := hx r
      omega
  · rw [accNext_wide hn]
    refine (pay9_apply x1 x2 x3 x0 a s d).trans (congrArg (a (ix2 s d) + ·) (Finset.sum_congr rfl fun r _ => if_congr (word_full s _) rfl rfl))

include hl hh hle hk hx in
/-- What one block adds to the counts: to each segment the number of rows whose id it is. -/
theorem cntNext_apply (b : Vec Ideal S1024x1 .f32) (s : Fin 1024) :
    cntNext lo hi x0 b (ix2 s 0) = b (ix2 s 0) + ∑ r : Fin 32000, (if (x0 (ix3 0 0 r)).toNat = s.val then 1 else 0) := by
  have hB := base_toNat lo hl
  by_cases hn : isNarrow lo hi
  · have hw : hi.toNat < (base lo).toNat + 128 := (narrow_iff lo hi hl hh hle).1 hn
    rw [cntNext_narrow hk hn]
    by_cases hs : (base lo).toNat ≤ s.val ∧ s.val < (base lo).toNat + 128
    · let q : Fin 128 := ⟨s.val - (base lo).toNat, by omega⟩
      have hq : (base lo).toNat + q.val = s.val := by show (base lo).toNat + (s.val - (base lo).toNat) = s.val; omega
      refine (put_in b (base lo).toNat _ s (0 : Fin 1) q hq).trans ((pay7_apply x0 lo _ q).trans ?_)
      refine congrArg₂ (· + ·) (window_at b (base lo).toNat _ s (0 : Fin 1) q hq) (Finset.sum_congr rfl fun r _ => if_congr ?_ rfl rfl)
      rw [word_window q (base lo) _ (by omega), hq]
    · refine (put_out b (base lo).toNat _ s (0 : Fin 1) (by omega)).trans ?_
      refine ((congrArg (b (ix2 s 0) + ·) (Finset.sum_eq_zero fun r _ => if_neg ?_)).trans (add_zero _)).symm
      have := hx r
      omega
  · rw [cntNext_wide hn]
    refine (pay10_apply x0 b s).trans (congrArg (b (ix2 s 0) + ·) (Finset.sum_congr rfl fun r _ => if_congr (word_full s _) rfl rfl))

end Block

/-! ## The totals -/

/-- A sum over ten blocks, block by block: a running total that adds each block's sum ends at the sum of all. -/
theorem blocks_total (f : Fin 320000 → EReal) (g : ℕ → EReal) (h0 : g 0 = 0)
    (hs : ∀ t (ht : t < 10), g (t + 1) = g t + ∑ r : Fin 32000, f ⟨32000 * t + r.val, by have := r.isLt; omega⟩) :
    g 10 = ∑ r, f r := by
  have e : ∀ n (hn : n ≤ 10), g n = ∑ k ∈ Finset.range (32000 * n), if h : k < 320000 then f ⟨k, h⟩ else 0 := by
    intro n
    induction n with
    | zero => intro _; rw [h0]; rfl
    | succ n ih =>
      intro hn
      rw [hs n (by omega), ih (by omega), show 32000 * (n + 1) = 32000 * n + 32000 from by ring, Finset.sum_range_add]
      refine congrArg (_ + ·) ?_
      rw [Finset.sum_range]
      refine Finset.sum_congr rfl fun r _ => ?_
      rw [dif_pos (by have := r.isLt; omega)]
  rw [e 10 (le_refl _), show 32000 * 10 = 320000 from rfl, Finset.sum_range]
  exact Finset.sum_congr rfl fun r _ => dif_pos r.isLt

section Totals

variable (m : (ℓ : Loc nD τ sig) → Buf (Elt Ideal) ℓ) (c : Dev nD) (h : ∀ c, Cert.Ids.Sorted (ids m c))

abbrev ar0 : Vec Ideal S320000x128 .f32 := m ((c : Thread nD τ).loc main_arg0)
abbrev ar2 : Vec Ideal S128x128 .f32 := m ((c : Thread nD τ).loc main_arg2)
abbrev ar3 : Vec Ideal S128 .f32 := m ((c : Thread nD τ).loc main_arg3)
abbrev ar4 : Vec Ideal S128x128 .f32 := m ((c : Thread nD τ).loc main_arg4)
abbrev ar5 : Vec Ideal S128 .f32 := m ((c : Thread nD τ).loc main_arg5)

/-- The first layer on a block's row is the first layer on the array's row. -/
theorem pay3_row (t : Fin (cfgM m).N) (r : Fin 32000) (d : Fin 128) :
    k0_pay3 (x1 m c t) (x2 m c t) (x3 m c t) (ix2 r d)
      = Cert.Spec.lin (ar0 m c) (ar2 m c) (ar3 m c) ⟨32000 * t.val + r.val, by have := lt_N m t; have := r.isLt; omega⟩ d := by
  rw [pay3_apply, x2_eq, x3_apply]
  unfold Cert.Spec.lin
  refine congrArg (max · 0) (congrArg (· + _) (Finset.sum_congr rfl fun k _ => congrArg (· * _) (x1_apply m c t r k)))

include h in
theorem range_x0 (t : Fin (cfgM m).N) (r : Fin 32000) :
    (lo m c t).toNat ≤ (x0 m c t (ix3 0 0 r)).toNat ∧ (x0 m c t (ix3 0 0 r)).toNat ≤ (hi m c t).toNat := by
  have hr := r.isLt
  have ht := lt_N m t
  rw [x0_apply, lo_eq, hi_eq]
  exact ⟨(h c).mono _ _ _ (by omega), (h c).mono _ _ _ (by omega)⟩

include h in
theorem lo_lt (t : Fin (cfgM m).N) : (lo m c t).toNat < 1024 := by rw [lo_eq]; exact (h c).lt _ _
include h in
theorem hi_lt (t : Fin (cfgM m).N) : (hi m c t).toNat < 1024 := by rw [hi_eq]; exact (h c).lt _ _

include h in
/-- The sums after point `t`. -/
theorem tot_acc (t : Fin (cfgM m).N) (s : Fin 1024) (d : Fin 128) :
    (tot m c (t.val + 1) t.isLt).1 (ix2 s d) = (tot m c t.val (Nat.le_of_lt t.isLt)).1 (ix2 s d)
      + ∑ r : Fin 32000, (fun r : Fin 320000 => if Cert.Spec.seg (ids m c) r = s.val then Cert.Spec.lin (ar0 m c) (ar2 m c) (ar3 m c) r d else 0)
          ⟨32000 * t.val + r.val, by have := lt_N m t; have := r.isLt; omega⟩ := by
  have hr := range_x0 m c h t
  rw [tot_succ1, accNext_apply (lo m c t) (hi m c t) (lo_lt m c h t) (hi_lt m c h t) ((hr ⟨0, by decide⟩).1.trans (hr ⟨0, by decide⟩).2)
    (chk_of_sorted m h c t) (x0 m c t) hr]
  refine congrArg (_ + ·) (Finset.sum_congr rfl fun r _ => ?_)
  rw [pay3_row, x0_apply]
  rfl

include h in
/-- The counts after point `t`. -/
theorem tot_cnt (t : Fin (cfgM m).N) (s : Fin 1024) :
    (tot m c (t.val + 1) t.isLt).2 (ix2 s 0) = (tot m c t.val (Nat.le_of_lt t.isLt)).2 (ix2 s 0)
      + ∑ r : Fin 32000, (fun r : Fin 320000 => if Cert.Spec.seg (ids m c) r = s.val then (1 : EReal) else 0)
          ⟨32000 * t.val + r.val, by have := lt_N m t; have := r.isLt; omega⟩ := by
  have hr := range_x0 m c h t
  rw [tot_succ2, cntNext_apply (lo m c t) (hi m c t) (lo_lt m c h t) (hi_lt m c h t) ((hr ⟨0, by decide⟩).1.trans (hr ⟨0, by decide⟩).2)
    (chk_of_sorted m h c t) (x0 m c t) hr]
  refine congrArg (_ + ·) (Finset.sum_congr rfl fun r _ => ?_)
  rw [x0_apply]
  rfl

theorem ten_le : 10 ≤ (cfgM m).N := le_of_eq (show 10 = (cfgM m).N from N_0.symm)

include h in
/-- The sums after the last point. -/
theorem total_acc (s : Fin 1024) (d : Fin 128) :
    (tot m c ((tLast m).val + 1) (tLast m).isLt).1 (ix2 s d) = Cert.Spec.sum (ar0 m c) (ids m c) (ar2 m c) (ar3 m c) s.val d := by
  have key := blocks_total (fun r : Fin 320000 => if Cert.Spec.seg (ids m c) r = s.val then Cert.Spec.lin (ar0 m c) (ar2 m c) (ar3 m c) r d else 0)
    (fun n => if hn : n ≤ (cfgM m).N then (tot m c n hn).1 (ix2 s d) else 0)
    (by
      rw [dif_pos (Nat.zero_le _), tot_zero m c 0 _ rfl]
      exact pay1_apply (ix2 s d))
    (fun t ht => by
      have h10 := ten_le m
      rw [dif_pos (by omega), dif_pos (by omega)]
      exact tot_acc m c h ⟨t, by omega⟩ s d)
  have k2 := (dif_pos (ten_le m)).symm.trans key
  exact k2

include h in
/-- The counts after the last point. -/
theorem total_cnt (s : Fin 1024) :
    (tot m c ((tLast m).val + 1) (tLast m).isLt).2 (ix2 s 0) = Cert.Spec.cnt (ids m c) s.val := by
  have key := blocks_total (fun r : Fin 320000 => if Cert.Spec.seg (ids m c) r = s.val then (1 : EReal) else 0)
    (fun n => if hn : n ≤ (cfgM m).N then (tot m c n hn).2 (ix2 s 0) else 0)
    (by
      rw [dif_pos (Nat.zero_le _), tot_zero m c 0 _ rfl]
      exact pay2_apply (ix2 s 0))
    (fun t ht => by
      have h10 := ten_le m
      rw [dif_pos (by omega), dif_pos (by omega)]
      exact tot_cnt m c h ⟨t, by omega⟩ s)
  have k2 := (dif_pos (ten_le m)).symm.trans key
  exact k2

include h in
/-- The kernel's result is the second layer of the segments' means. -/
theorem final_value : (dats m 0 c).arrAt 6 (cfgM m).N
    = (fun i => Cert.Spec.out (ar0 m c) (ids m c) (ar2 m c) (ar4 m c) (ar3 m c) (ar5 m c) (i 0) (i 1) : Vec Ideal S1024x128 .f32) := by
  refine (final6 m c).trans (funext fun i => ?_)
  obtain ⟨s, e, rfl⟩ : ∃ (s : Fin 1024) (e : Fin 128), i = ix2 s e := ⟨i 0, i 1, eq_ix2 i⟩
  unfold outAt
  refine (pay11_apply _ _ _ _ s e).trans (congrArg₂ (· + ·) (Finset.sum_congr rfl fun d _ => congrArg₂ (· * ·) (congrArg₂ Ideal.div ?_ (congrArg (max · 1) ?_)) ?_) ?_)
  · exact total_acc m c h s d
  · exact total_cnt m c h s
  · rw [x4_eq]
  · exact x5_apply m c (tLast m) e

end Totals

end Cert.KernelIdeal.Hand

end
-- ==== Proof.RefValue.lean ====
module

public import proofs.«01_k».proof.Proof.Gen.ReferenceIdeal
public import proofs.«01_k».proof.Proof.Gen.ReferenceIdeal.Run
public import proofs.«01_k».proof.Proof.Spec
public import Idealize.ShloMosaic.Lib.MatmulPlain
public import Idealize.ShloMosaic.Lib.IdealHost
public import Idealize.ShloMosaic.Lib.ValueIdx
public import Idealize.ShloMosaic.Lib.Pipeline.Value
public import Idealize.ShloMosaic.Lib.KernelVsHost

@[expose] public section

set_option maxRecDepth 16384

/-!
The reference over the extended reals, read at an index: its accumulating scatters are sums over the rows of a segment.
-/

noncomputable section

namespace Cert.ReferenceIdeal.Hand

open Idealize.ShloMosaic Idealize.ShloMosaic.ValueIdx
open Cert.ReferenceIdeal Cert.ReferenceIdeal.Gen

/-! ## Where an update lands -/

section Lands
variable (idx : IVec S320000x1 32)

theorem start0 (r : Fin 320000) (d : Fin 128) :
    scatter_S1024x128_S320000x1_S320000x128_1_0_0_1.start (ix2 r d) idx 0 = (idx (ix2 r 0)).toInt := by
  refine (dif_pos (List.mem_singleton.2 rfl)).trans (congrArg (fun j => (idx j).toInt) ?_)
  funext b
  match b with
  | ⟨0, _⟩ => rfl
  | ⟨1, _⟩ => rfl

theorem start1 (r : Fin 320000) (d : Fin 128) :
    scatter_S1024x128_S320000x1_S320000x128_1_0_0_1.start (ix2 r d) idx 1 = 0 := rfl

theorem window0 (r : Fin 320000) (d : Fin 128) :
    scatter_S1024x128_S320000x1_S320000x128_1_0_0_1.window (ix2 r d) 0 = 0 := rfl

theorem window1 (r : Fin 320000) (d : Fin 128) :
    scatter_S1024x128_S320000x1_S320000x128_1_0_0_1.window (ix2 r d) 1 = d.val := rfl

/-- Row `r` of the updates lands in row `s` of the sums exactly when its id, read signed, is `s`. -/
theorem lands2 (r : Fin 320000) (d : Fin 128) (s : Fin 1024) (e : Fin 128) :
    scatter_S1024x128_S320000x1_S320000x128_1_0_0_1.resultIdx? (ix2 r d) idx = some (ix2 s e)
      ↔ (idx (ix2 r 0)).toInt = (s.val : ℤ) ∧ d = e := by
  have hs := s.isLt
  have hd := d.isLt
  unfold ScatterDims.resultIdx?
  split
  · next h =>
    have h0 := h 0
    rw [start0, window0] at h0
    constructor
    · intro q
      have q0 := congrArg Fin.val (congrFun (Option.some.inj q) 0)
      have q1 := congrArg Fin.val (congrFun (Option.some.inj q) 1)
      change (scatter_S1024x128_S320000x1_S320000x128_1_0_0_1.start (ix2 r d) idx 0 + (scatter_S1024x128_S320000x1_S320000x128_1_0_0_1.window (ix2 r d) 0 : ℤ)).toNat = s.val at q0
      change (scatter_S1024x128_S320000x1_S320000x128_1_0_0_1.start (ix2 r d) idx 1 + (scatter_S1024x128_S320000x1_S320000x128_1_0_0_1.window (ix2 r d) 1 : ℤ)).toNat = e.val at q1
      rw [start0, window0] at q0
      rw [start1, window1] at q1
      exact ⟨by omega, Fin.ext (by omega)⟩
    · rintro ⟨q, rfl⟩
      refine congrArg some (funext fun a => Fin.ext ?_)
      match a with
      | ⟨0, _⟩ =>
        show (scatter_S1024x128_S320000x1_S320000x128_1_0_0_1.start (ix2 r d) idx 0 + (scatter_S1024x128_S320000x1_S320000x128_1_0_0_1.window (ix2 r d) 0 : ℤ)).toNat = s.val
        rw [start0, window0]; omega
      | ⟨1, _⟩ =>
        show (scatter_S1024x128_S320000x1_S320000x128_1_0_0_1.start (ix2 r d) idx 1 + (scatter_S1024x128_S320000x1_S320000x128_1_0_0_1.window (ix2 r d) 1 : ℤ)).toNat = d.val
        rw [start1, window1]; omega
  · next h =>
    refine ⟨fun q => absurd q.symm (Option.some_ne_none _), ?_⟩
    rintro ⟨q, rfl⟩
    refine (h fun a => ?_).elim
    match a with
    | ⟨0, _⟩ =>
      show 0 ≤ scatter_S1024x128_S320000x1_S320000x128_1_0_0_1.start (ix2 r d) idx 0 + (scatter_S1024x128_S320000x1_S320000x128_1_0_0_1.window (ix2 r d) 0 : ℤ)
        ∧ scatter_S1024x128_S320000x1_S320000x128_1_0_0_1.start (ix2 r d) idx 0 + (scatter_S1024x128_S320000x1_S320000x128_1_0_0_1.window (ix2 r d) 0 : ℤ) < ((1024 : ℕ) : ℤ)
      rw [start0, window0]; omega
    | ⟨1, _⟩ =>
      show 0 ≤ scatter_S1024x128_S320000x1_S320000x128_1_0_0_1.start (ix2 r d) idx 1 + (scatter_S1024x128_S320000x1_S320000x128_1_0_0_1.window (ix2 r d) 1 : ℤ)
        ∧ scatter_S1024x128_S320000x1_S320000x128_1_0_0_1.start (ix2 r d) idx 1 + (scatter_S1024x128_S320000x1_S320000x128_1_0_0_1.window (ix2 r d) 1 : ℤ) < ((128 : ℕ) : ℤ)
      rw [start1, window1]; omega

theorem start0' (r : Fin 320000) :
    scatter_S1024_S320000x1_S320000_n_0_0_1.start (ix1 r) idx 0 = (idx (ix2 r 0)).toInt := by
  refine (dif_pos (List.mem_singleton.2 rfl)).trans (congrArg (fun j => (idx j).toInt) ?_)
  funext b
  match b with
  | ⟨0, _⟩ => rfl
  | ⟨1, _⟩ => rfl

theorem window0' (r : Fin 320000) : scatter_S1024_S320000x1_S320000_n_0_0_1.window (ix1 r) 0 = 0 := rfl

/-- Row `r` counts for segment `s` exactly when its id, read signed, is `s`. -/
theorem lands1 (r : Fin 320000) (s : Fin 1024) :
    scatter_S1024_S320000x1_S320000_n_0_0_1.resultIdx? (ix1 r) idx = some (ix1 s) ↔ (idx (ix2 r 0)).toInt = (s.val : ℤ) := by
  have hs := s.isLt
  unfold ScatterDims.resultIdx?
  split
  · next h =>
    have h0 := h 0
    rw [start0', window0'] at h0
    constructor
    · intro q
      have q0 := congrArg Fin.val (congrFun (Option.some.inj q) 0)
      change (scatter_S1024_S320000x1_S320000_n_0_0_1.start (ix1 r) idx 0 + (scatter_S1024_S320000x1_S320000_n_0_0_1.window (ix1 r) 0 : ℤ)).toNat = s.val at q0
      rw [start0', window0'] at q0
      omega
    · intro q
      refine congrArg some (funext fun a => Fin.ext ?_)
      match a with
      | ⟨0, _⟩ =>
        show (scatter_S1024_S320000x1_S320000_n_0_0_1.start (ix1 r) idx 0 + (scatter_S1024_S320000x1_S320000_n_0_0_1.window (ix1 r) 0 : ℤ)).toNat = s.val
        rw [start0', window0']; omega
  · next h =>
    refine ⟨fun q => absurd q.symm (Option.some_ne_none _), fun q => (h fun a => ?_).elim⟩
    match a with
    | ⟨0, _⟩ =>
      show 0 ≤ scatter_S1024_S320000x1_S320000_n_0_0_1.start (ix1 r) idx 0 + (scatter_S1024_S320000x1_S320000_n_0_0_1.window (ix1 r) 0 : ℤ)
        ∧ scatter_S1024_S320000x1_S320000_n_0_0_1.start (ix1 r) idx 0 + (scatter_S1024_S320000x1_S320000_n_0_0_1.window (ix1 r) 0 : ℤ) < ((1024 : ℕ) : ℤ)
      rw [start0', window0']; omega

end Lands

/-! ## The reference's value -/

section Value
open Cert.Ids (row)

/-- An id that is a segment number, read signed. -/
theorem toInt_eq_iff (w : BitVec 32) (h : w.toNat < 1024) (s : ℕ) : w.toInt = (s : ℤ) ↔ w.toNat = s := by
  rw [BitVec.toInt_eq_toNat_cond, if_pos (by omega)]
  omega

/-- The ids as one column, read at an index. -/
theorem col_ids (a1 : IVec S320000 32) (r : Fin 320000) :
    broadcastInDim S320000x1 ![0] bcast_S320000_S320000x1_0 a1 (ix2 r 0) = a1 (row r.val r.isLt) :=
  broadcastInDim_apply ![0] bcast_S320000_S320000x1_0 a1 _ _ fun a => by
    obtain rfl : a = 0 := Subsingleton.elim _ _
    exact (if_neg (by decide)).symm

/-- A sum over the indices of a vector. -/
theorem sum_ix1 {n : ℕ} (f : (⟨1, ![n]⟩ : Shape).Idx → EReal) : ∑ i, f i = ∑ a : Fin n, f (ix1 a) :=
  (Equiv.sum_comp (⟨fun a => ix1 a, fun i => i 0, fun _ => rfl, fun i => (eq_ix1 i).symm⟩ : Fin n ≃ (⟨1, ![n]⟩ : Shape).Idx) f).symm

variable (a1 : IVec S320000 32) (hid : ∀ r h, (a1 (row r h)).toNat < 1024)

include hid in
/-- The accumulating scatter of rows: each segment's sum. -/
theorem scatter2 (z : FVec Ideal S1024x128 .f32) (hz : ∀ i, z i = 0) (u : FVec Ideal S320000x128 .f32) (s : Fin 1024) (d : Fin 128) :
    Host.scatterAdd scatter_S1024x128_S320000x1_S320000x128_1_0_0_1 z (broadcastInDim S320000x1 ![0] bcast_S320000_S320000x1_0 a1) u (ix2 s d)
      = ∑ r : Fin 320000, if Cert.Spec.seg a1 r = s.val then u (ix2 r d) else 0 := by
  show z (ix2 s d) + ∑ j ∈ Finset.univ.filter (fun j => scatter_S1024x128_S320000x1_S320000x128_1_0_0_1.resultIdx? j
    (broadcastInDim S320000x1 ![0] bcast_S320000_S320000x1_0 a1) = some (ix2 s d)), u j = _
  rw [hz, zero_add, Finset.sum_filter]
  refine (sum_idx2 (n0 := 320000) (n1 := 128) _).trans (Finset.sum_congr rfl fun r _ => ?_)
  have hl : ∀ e : Fin 128, scatter_S1024x128_S320000x1_S320000x128_1_0_0_1.resultIdx? (ix2 r e)
      (broadcastInDim S320000x1 ![0] bcast_S320000_S320000x1_0 a1) = some (ix2 s d) ↔ Cert.Spec.seg a1 r = s.val ∧ e = d := fun e => by
    rw [lands2, col_ids, toInt_eq_iff _ (hid _ _)]
    exact Iff.rfl
  refine (Finset.sum_congr rfl fun e _ => if_congr (hl e) rfl rfl).trans ?_
  by_cases h : Cert.Spec.seg a1 r = s.val
  · rw [if_pos h]
    refine (Finset.sum_eq_single d (fun e _ he => if_neg fun q => he q.2) fun q => absurd (Finset.mem_univ _) q).trans (if_pos ⟨h, rfl⟩)
  · rw [if_neg h]
    exact Finset.sum_eq_zero fun e _ => if_neg fun q => h q.1

include hid in
/-- The accumulating scatter of ones: each segment's number of rows. -/
theorem scatter1 (z : FVec Ideal S1024 .f32) (hz : ∀ i, z i = 0) (u : FVec Ideal S320000 .f32) (hu : ∀ i, u i = 1) (s : Fin 1024) :
    Host.scatterAdd scatter_S1024_S320000x1_S320000_n_0_0_1 z (broadcastInDim S320000x1 ![0] bcast_S320000_S320000x1_0 a1) u (ix1 s)
      = Cert.Spec.cnt a1 s.val := by
  show z (ix1 s) + ∑ j ∈ Finset.univ.filter (fun j => scatter_S1024_S320000x1_S320000_n_0_0_1.resultIdx? j
    (broadcastInDim S320000x1 ![0] bcast_S320000_S320000x1_0 a1) = some (ix1 s)), u j = _
  rw [hz, zero_add, Finset.sum_filter]
  refine (sum_ix1 (n := 320000) _).trans (Finset.sum_congr rfl fun r _ => ?_)
  refine if_congr ?_ (hu _) rfl
  rw [lands1, col_ids, toInt_eq_iff _ (hid _ _)]
  exact Iff.rfl

/-- A vector spread over the rows of a matrix, read at an index. -/
theorem spread_bias {m : ℕ} (x : FVec Ideal S128 .f32) (h : (⟨2, ![1, 128]⟩ : Shape).BroadcastsInDim ⟨2, ![m, 128]⟩ ![0, 1]) (r : Fin m) (d : Fin 128) :
    broadcastInDim ⟨2, ![m, 128]⟩ ![0, 1] h (broadcastInDim S1x128 ![1] bcast_S128_S1x128_1 x) (ix2 r d) = x (ix1 d) := by
  rw [broadcastInDim_oneRow_apply]
  exact broadcastInDim_apply ![1] bcast_S128_S1x128_1 x (ix2 (0 : Fin 1) d) (ix1 d) fun a => by
    obtain rfl : a = 0 := Subsingleton.elim _ _
    exact (if_neg (show ¬ (128 : ℕ) = 1 by decide)).symm

/-- The rectified first layer of the reference, read at an index. -/
theorem lin_apply (a0 : FVec Ideal S320000x128 .f32) (a2 : FVec Ideal S128x128 .f32) (a3 : FVec Ideal S128 .f32) (r : Fin 320000) (d : Fin 128) :
    maximumf (addf (Host.dotGeneral dot_S320000x128_S128x128_S320000x128_1_0_0_1_n_n none a0 a2) (broadcastInDim S320000x128 ![0, 1] bcast_S1x128_S320000x128_0_1 (broadcastInDim S1x128 ![1] bcast_S128_S1x128_1 a3))) (broadcastInDim S320000x128 ![] bcast_S_S320000x128 (constant S_ .f32 0x00000000#32)) (ix2 r d)
      = Cert.Spec.lin a0 a2 a3 r d := by
  show max (Host.dotGeneral (φ₁ := .f32) (φ₂ := .f32) (DotDims.plain 320000 128 128) none a0 a2 (ix2 r d) + broadcastInDim S320000x128 ![0, 1] bcast_S1x128_S320000x128_0_1 (broadcastInDim S1x128 ![1] bcast_S128_S1x128_1 a3) (ix2 r d))
    (Ideal.ofBits .f32 0x00000000#32) = _
  rw [← matmul_zero_eq_dotGeneral, spread_bias, Ideal.ofBits_zero_f32]
  show max (FloatOps.matmul (F := Ideal) (φ₁ := .f32) (φ₂ := .f32) (DotDims.plain 320000 128 128) none a0 a2 (constant (F := Ideal) S320000x128 .f32 0x00000000#32) (ix2 r d) + a3 (ix1 d)) 0 = _
  rw [Ideal.matmul_plain_apply, constant_apply, Ideal.ofBits_zero_f32, zero_add]
  rfl

include hid in
/-- The reference's result is the second layer of the segments' means. -/
theorem value (a0 : FVec Ideal S320000x128 .f32) (a2 : FVec Ideal S128x128 .f32) (a3 : FVec Ideal S128 .f32) (a4 : FVec Ideal S128x128 .f32) (a5 : FVec Ideal S128 .f32) :
    addf (Host.dotGeneral dot_S1024x128_S128x128_S1024x128_1_0_0_1_n_n none (Host.divf (Host.scatterAdd scatter_S1024x128_S320000x1_S320000x128_1_0_0_1 (broadcastInDim S1024x128 ![] bcast_S_S1024x128 (constant S_ .f32 0x00000000#32)) (broadcastInDim S320000x1 ![0] bcast_S320000_S320000x1_0 a1) (maximumf (addf (Host.dotGeneral dot_S320000x128_S128x128_S320000x128_1_0_0_1_n_n none a0 a2) (broadcastInDim S320000x128 ![0, 1] bcast_S1x128_S320000x128_0_1 (broadcastInDim S1x128 ![1] bcast_S128_S1x128_1 a3))) (broadcastInDim S320000x128 ![] bcast_S_S320000x128 (constant S_ .f32 0x00000000#32)))) (broadcastInDim S1024x128 ![0, 1] bcast_S1024x1_S1024x128_0_1 (broadcastInDim S1024x1 ![0] bcast_S1024_S1024x1_0 (maximumf (Host.scatterAdd scatter_S1024_S320000x1_S320000_n_0_0_1 (broadcastInDim S1024 ![] bcast_S_S1024 (constant S_ .f32 0x00000000#32)) (broadcastInDim S320000x1 ![0] bcast_S320000_S320000x1_0 a1) (broadcastInDim S320000 ![] bcast_S_S320000 (constant S_ .f32 0x3F800000#32))) (broadcastInDim S1024 ![] bcast_S_S1024 (constant S_ .f32 0x3F800000#32)))))) a4) (broadcastInDim S1024x128 ![0, 1] bcast_S1x128_S1024x128_0_1 (broadcastInDim S1x128 ![1] bcast_S128_S1x128_1 a5))
      = fun i => Cert.Spec.out a0 a1 a2 a4 a3 a5 (i 0) (i 1) := by
  funext i
  obtain ⟨s, e, rfl⟩ : ∃ (s : Fin 1024) (e : Fin 128), i = ix2 s e := ⟨i 0, i 1, eq_ix2 i⟩
  rw [addf_apply, spread_bias, ← matmul_zero_eq_dotGeneral]
  refine congrArg (· + a5 (ix1 e)) ?_
  refine (Ideal.matmul_plain_apply (M := 1024) (K := 128) (N := 128) (φ₁ := .f32) (φ₂ := .f32) none _ a4 (constant (F := Ideal) S1024x128 .f32 0x00000000#32) s e).trans ?_
  rw [constant_apply, Ideal.ofBits_zero_f32, zero_add]
  refine Finset.sum_congr rfl fun d _ => congrArg (· * a4 (ix2 d e)) ?_
  refine (hostDivf_apply _ _ _).trans (congrArg₂ Ideal.div ?_ ?_)
  · refine (scatter2 a1 hid _ (fun i => Ideal.ofBits_zero_f32) _ s d).trans ?_
    exact Finset.sum_congr rfl fun r _ => if_congr Iff.rfl (lin_apply a0 a2 a3 r d) rfl
  · refine (broadcastInDim_apply ![0, 1] bcast_S1024x1_S1024x128_0_1 _ (ix2 s d) (ix2 s (0 : Fin 1)) fun a => match a with
      | ⟨0, _⟩ => (if_neg (show ¬ (1024 : ℕ) = 1 by decide)).symm
      | ⟨1, _⟩ => (if_pos rfl).symm).trans ?_
    refine (broadcastInDim_apply ![0] bcast_S1024_S1024x1_0 _ (ix2 s (0 : Fin 1)) (ix1 s) fun a => match a with
      | ⟨0, _⟩ => (if_neg (show ¬ (1024 : ℕ) = 1 by decide)).symm).trans ?_
    rw [maximumf_apply]
    exact congrArg₂ max (scatter1 a1 hid _ (fun i => Ideal.ofBits_zero_f32) _ (fun i => Ideal.ofBits_one_f32) s) Ideal.ofBits_one_f32

end Value

end Cert.ReferenceIdeal.Hand

end
-- ==== Proof.lean ====
/- The proof of the claims stated in `proofs.«01_k».proof.Defs`. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_sorted_ids
public import proofs.«01_k».proof.Proof.Tables
public import proofs.«01_k».proof.Proof.Ideal.Tables
public import proofs.«01_k».proof.Proof.Ideal.Step
public import proofs.«01_k».proof.Proof.RefValue
public import Idealize.ShloMosaic.Adequacy
public import Idealize.ShloMosaic.Init

@[expose] public section

noncomputable section

namespace Cert.Proof

open Idealize.ShloMosaic Idealize.SL.Sem

/-- The kernel's arguments end unchanged and its semaphores at zero, when the ids are sorted segment numbers. -/
theorem frame_kernel : Cert.quiescent_Kernel := fun m g h =>
  Cert.Kernel.Hand.frame_run m g (Cert.Kernel.Hand.chk_of_sorted m fun c => Cert.Ids.sorted_of_pre _ _ _ _ _ _ (h c))

/-- The same of the kernel read over the extended reals. -/
theorem frame_kernel_ideal : Cert.quiescent_KernelIdeal := fun m g h =>
  Cert.KernelIdeal.Hand.frame_run m g (Cert.KernelIdeal.Hand.chk_of_sorted m fun c => Cert.Ids.sorted_of_pre _ _ _ _ _ _ (h c))

/-- The reference's arguments end unchanged and its semaphores at zero. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

theorem frame_reference_sorted : Cert.quiescent_ReferenceIdeal_pre_sorted_ids := fun m g _ => frame_reference m g trivial

/-- Over the extended reals the kernel and the reference end with the same array, when the ids are sorted segment numbers. -/
theorem same_value : Cert.algebraic_KernelIdeal_ReferenceIdeal := fun m g m' g' h ha => by
  have hs : ∀ c, Cert.Ids.Sorted (Cert.KernelIdeal.Hand.ids m c) := fun c => Cert.Ids.sorted_of_pre _ _ _ _ _ _ (h c)
  refine ⟨fun c i => Cert.Spec.out (Cert.KernelIdeal.Hand.ar0 m c) (Cert.KernelIdeal.Hand.ids m c) (Cert.KernelIdeal.Hand.ar2 m c)
    (Cert.KernelIdeal.Hand.ar4 m c) (Cert.KernelIdeal.Hand.ar3 m c) (Cert.KernelIdeal.Hand.ar5 m c) (i 0) (i 1), ?_, ?_⟩
  · refine (θ_run Cert.KernelIdeal.defs _ _).mono (fun r hr c => ⟨((hr.1 c).1).trans (Cert.KernelIdeal.Hand.final_value m c hs), (hr.1 c).2⟩)
      (Cert.KernelIdeal.Hand.run_post m g (Cert.KernelIdeal.Hand.chk_of_sorted m hs))
  · refine (θ_run Cert.ReferenceIdeal.defs _ _).mono (fun r hr c => ⟨((hr c).1).trans ?_, (hr c).2⟩) (Cert.ReferenceIdeal.Value.run m' g')
    obtain ⟨h0, h1, h2, h3, h4, h5⟩ := ha c
    have hid : ∀ r q, ((m' ((c.tc : Thread Cert.ReferenceIdeal.nD Cert.ReferenceIdeal.τ).loc Cert.ReferenceIdeal.main_arg1) : IVec Cert.Ids.SB 32) (Cert.Ids.row r q)).toNat < 1024 := by
      rw [h1]
      exact (hs c).lt
    refine (Cert.ReferenceIdeal.Hand.value _ hid _ _ _ _ _).trans ?_
    rw [h0, h1, h2, h3, h4, h5]
    rfl

theorem claim : Cert.Claim :=
  ⟨Cert.Kernel.Gen.facts, Cert.KernelIdeal.Gen.facts, Cert.ReferenceIdeal.Gen.facts, Cert.Pre_sorted_ids.Gen.facts,
    frame_kernel, frame_kernel_ideal, frame_reference, frame_reference_sorted, trivial, same_value⟩

end Cert.Proof

end
